-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v243) = v0 c
          ∧ r.2.mem ((c.tc : Thread Cert.ReferenceIdeal.nD Cert.ReferenceIdeal.τ).loc Cert.ReferenceIdeal.main_v242) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x1536 : Shape := ⟨2, ![8192, 1536]⟩
abbrev S8192x2048 : Shape := ⟨2, ![8192, 2048]⟩
abbrev S8192 : Shape := ⟨1, ![8192]⟩
abbrev S1536x2048 : Shape := ⟨2, ![1536, 2048]⟩
abbrev S2048x128 : Shape := ⟨2, ![2048, 128]⟩
abbrev S128 : Shape := ⟨1, ![128]⟩
abbrev S_ : Shape := ⟨0, ![]⟩

class Facts : Prop where
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S1536x2048 : S_.BroadcastsInDim S1536x2048 (![] : Fin 0 → Fin S1536x2048.rank)
  reducesTo_S1536x2048_S_d0_1 : S1536x2048.ReducesTo [0, 1] S_
  bcast_S_S2048x128 : S_.BroadcastsInDim S2048x128 (![] : Fin 0 → Fin S2048x128.rank)
  reducesTo_S2048x128_S_d0_1 : S2048x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_v13 : IVec S_ 1) (main_v16 : IVec S2048x128 1) : IVec S_ 1 :=
  let main_c_5 : IVec S_ 1 := constantI S_ 1 1#1
  let main_v17 : IVec S_ 1 := (fun x v => Host.reduce IntOp.andi x v reducesTo_S2048x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S8192x1536 .f32) (main_arg1 : FVec F S8192x2048 .f32) (main_arg2 : IVec S8192 32) (main_arg3 : FVec F S1536x2048 .f32) (main_arg4 : FVec F S2048x128 .f32) (main_arg5 : FVec F S128 .f32) (main_arg6 : FVec F S128 .f32) : IVec S_ 1 :=
  let main_v0 : FVec F S8192x1536 .f32 := Host.absf main_arg0
  let main_cst : FVec F S_ .f32 := constant S_ .f32 0x7F800000#32
  let main_v1 : FVec F S8192x1536 .f32 := broadcastInDim S8192x1536 ![] bcast_S_S8192x1536 main_cst
  let main_v2 : IVec S8192x1536 1 := cmpf .olt main_v0 main_v1
  let main_c : IVec S_ 1 := constantI S_ 1 1#1
  let main_v3 : IVec S_ 1 := (fun x v => Host.reduce IntOp.andi x v reducesTo_S8192x1536_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S1536x2048 .f32 := Host.absf main_arg3
  let main_cst_2 : FVec F S_ .f32 := constant S_ .f32 0x7F800000#32
  let main_v10 : FVec F S1536x2048 .f32 := broadcastInDim S1536x2048 ![] bcast_S_S1536x2048 main_cst_2
  let main_v11 : IVec S1536x2048 1 := cmpf .olt main_v9 main_v10
  let main_c_3 : IVec S_ 1 := constantI S_ 1 1#1
  let main_v12 : IVec S_ 1 := (fun x v => Host.reduce IntOp.andi x v reducesTo_S1536x2048_S_d0_1 h_S_) main_v11 main_c_3
  let main_v13 : IVec S_ 1 := andi main_v8 main_v12
  let main_v14 : FVec F S2048x128 .f32 := Host.absf main_arg4
  let main_cst_4 : FVec F S_ .f32 := constant S_ .f32 0x7F800000#32
  let main_v15 : FVec F S2048x128 .f32 := broadcastInDim S2048x128 ![] bcast_S_S2048x128 main_cst_4
  let main_v16 : IVec S2048x128 1 := cmpf .olt main_v14 main_v15
  fn_part1 (F := F) main_arg5 main_arg6 main_v13 main_v16
-- ==== Kernel.lean ====
abbrev S8192x1536 : Shape := ⟨2, ![8192, 1536]⟩
abbrev S8192x2048 : Shape := ⟨2, ![8192, 2048]⟩
abbrev S8192 : Shape := ⟨1, ![8192]⟩
abbrev S1536x2048 : Shape := ⟨2, ![1536, 2048]⟩
abbrev S2048x128 : Shape := ⟨2, ![2048, 128]⟩
abbrev S128 : Shape := ⟨1, ![128]⟩
abbrev S1x64 : Shape := ⟨2, ![1, 64]⟩
abbrev S128x128 : Shape := ⟨2, ![128, 128]⟩
abbrev S8192x1 : Shape := ⟨2, ![8192, 1]⟩
abbrev S1x128 : Shape := ⟨2, ![1, 128]⟩
abbrev S131072x128 : Shape := ⟨2, ![131072, 128]⟩
abbrev S8192x128 : Shape := ⟨2, ![8192, 128]⟩
abbrev S256x1536 : Shape := ⟨2, ![256, 1536]⟩
abbrev S256x2048 : Shape := ⟨2, ![256, 2048]⟩
abbrev S256x1 : Shape := ⟨2, ![256, 1]⟩
abbrev S4096x128 : Shape := ⟨2, ![4096, 128]⟩
abbrev S256x128 : Shape := ⟨2, ![256, 128]⟩
abbrev S256x64 : Shape := ⟨2, ![256, 64]⟩
abbrev S256 : Shape := ⟨1, ![256]⟩
abbrev S256x127 : Shape := ⟨2, ![256, 127]⟩
abbrev S256x2047 : Shape := ⟨2, ![256, 2047]⟩

abbrev nBuf : Space → Nat
  | .hbm => 15
  | .vmem => 19
  | .smem => 0
  | _ => 0

abbrev bufTy : (tb : Table) → Fin (tcTables nBuf tb) → BufTy
  | .hbm, ⟨0, _⟩ => ⟨S8192x1536, .f32⟩
  | .hbm, ⟨1, _⟩ => ⟨S8192x2048, .f32⟩
  | .hbm, ⟨2, _⟩ => ⟨S8192, .i32⟩
  | .hbm, ⟨3, _⟩ => ⟨S1536x2048, .f32⟩
  | .hbm, ⟨4, _⟩ => ⟨S2048x128, .f32⟩
  | .hbm, ⟨5, _⟩ => ⟨S128, .f32⟩
  | .hbm, ⟨6, _⟩ => ⟨S128, .f32⟩
  | .hbm, ⟨7, _⟩ => ⟨S1x64, .f32⟩
  | .hbm, ⟨8, _⟩ => ⟨S1x64, .f32⟩
  | .hbm, ⟨9, _⟩ => ⟨S128x128, .bf16⟩
  | .hbm, ⟨10, _⟩ => ⟨S8192x1, .i32⟩
  | .hbm, ⟨11, _⟩ => ⟨S1x128, .f32⟩
  | .hbm, ⟨12, _⟩ => ⟨S1x128, .f32⟩
  | .hbm, ⟨13, _⟩ => ⟨S131072x128, .f32⟩
  | .hbm, ⟨14, _⟩ => ⟨S8192x128, .f32⟩
  | .local _ .vmem, ⟨0, _⟩ => ⟨S256x1536, .f32⟩
  | .local _ .vmem, ⟨1, _⟩ => ⟨S256x1536, .f32⟩
  | .local _ .vmem, ⟨2, _⟩ => ⟨S256x2048, .f32⟩
  | .local _ .vmem, ⟨3, _⟩ => ⟨S256x2048, .f32⟩
  | .local _ .vmem, ⟨4, _⟩ => ⟨S256x1, .i32⟩
  | .local _ .vmem, ⟨5, _⟩ => ⟨S256x1, .i32⟩
  | .local _ .vmem, ⟨6, _⟩ => ⟨S1x64, .f32⟩
  | .local _ .vmem, ⟨7, _⟩ => ⟨S1x64, .f32⟩
  | .local _ .vmem, ⟨8, _⟩ => ⟨S1536x2048, .f32⟩
  | .local _ .vmem, ⟨9, _⟩ => ⟨S2048x128, .f32⟩
  | .local _ .vmem, ⟨10, _⟩ => ⟨S1x128, .f32⟩
  | .local _ .vmem, ⟨11, _⟩ => ⟨S1x128, .f32⟩
  | .local _ .vmem, ⟨12, _⟩ => ⟨S128x128, .bf16⟩
  | .local _ .vmem, ⟨13, _⟩ => ⟨S4096x128, .f32⟩
  | .local _ .vmem, ⟨14, _⟩ => ⟨S4096x128, .f32⟩
  | .local _ .vmem, ⟨15, _⟩ => ⟨S256x128, .f32⟩
  | .local _ .vmem, ⟨16, _⟩ => ⟨S256x128, .f32⟩
  | .local _ .vmem, ⟨17, _⟩ => ⟨S1536x2048, .bf16⟩
  | .local _ .vmem, ⟨18, _⟩ => ⟨S2048x128, .bf16⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_cst_0 : Ref sig .tc := ⟨.hbm, 8, rfl⟩
abbrev main_call0_cst_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v0_0 : Ref sig .tc := ⟨.hbm, 13, rfl⟩
abbrev main_v0_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S8192x1536 : Shape := ⟨2, ![8192, 1536]⟩
abbrev S8192x2048 : Shape := ⟨2, ![8192, 2048]⟩
abbrev S8192 : Shape := ⟨1, ![8192]⟩
abbrev S1536x2048 : Shape := ⟨2, ![1536, 2048]⟩
abbrev S2048x128 : Shape := ⟨2, ![2048, 128]⟩
abbrev S128 : Shape := ⟨1, ![128]⟩
abbrev S32 : Shape := ⟨1, ![32]⟩
abbrev S8192x16x128 : Shape := ⟨3, ![8192, 16, 128]⟩
abbrev S8192x128 : Shape := ⟨2, ![8192, 128]⟩
abbrev S_ : Shape := ⟨0, ![]⟩
abbrev S8192x1 : Shape := ⟨2, ![8192, 1]⟩
abbrev S1x128 : Shape := ⟨2, ![1, 128]⟩
abbrev S8192x16x64 : Shape := ⟨3, ![8192, 16, 64]⟩
abbrev S8192x16x32 : Shape := ⟨3, ![8192, 16, 32]⟩
abbrev S8192x64 : Shape := ⟨2, ![8192, 64]⟩
abbrev S8192x1x64 : Shape := ⟨3, ![8192, 1, 64]⟩
abbrev S8192x1x32 : Shape := ⟨3, ![8192, 1, 32]⟩
abbrev S1x32 : Shape := ⟨2, ![1, 32]⟩
abbrev S8192x32 : Shape := ⟨2, ![8192, 32]⟩
abbrev S131072x128 : Shape := ⟨2, ![131072, 128]⟩
abbrev S131072x64x2x1 : Shape := ⟨4, ![131072, 64, 2, 1]⟩
abbrev S131072x64x1x1 : Shape := ⟨4, ![131072, 64, 1, 1]⟩
abbrev S131072x64x1 : Shape := ⟨3, ![131072, 64, 1]⟩
abbrev S131072x32x2x2 : Shape := ⟨4, ![131072, 32, 2, 2]⟩
abbrev S131072x32x1x2 : Shape := ⟨4, ![131072, 32, 1, 2]⟩
abbrev S131072x32x2 : Shape := ⟨3, ![131072, 32, 2]⟩
abbrev S131072x16x2x4 : Shape := ⟨4, ![131072, 16, 2, 4]⟩
abbrev S131072x16x1x4 : Shape := ⟨4, ![131072, 16, 1, 4]⟩
abbrev S131072x16x4 : Shape := ⟨3, ![131072, 16, 4]⟩
abbrev S131072x8x2x8 : Shape := ⟨4, ![131072, 8, 2, 8]⟩
abbrev S131072x8x1x8 : Shape := ⟨4, ![131072, 8, 1, 8]⟩
abbrev S131072x8x8 : Shape := ⟨3, ![131072, 8, 8]⟩
abbrev S131072x4x2x16 : Shape := ⟨4, ![131072, 4, 2, 16]⟩
abbrev S131072x4x1x16 : Shape := ⟨4, ![131072, 4, 1, 16]⟩
abbrev S131072x4x16 : Shape := ⟨3, ![131072, 4, 16]⟩
abbrev S131072x2x2x32 : Shape := ⟨4, ![131072, 2, 2, 32]⟩
abbrev S131072x2x1x32 : Shape := ⟨4, ![131072, 2, 1, 32]⟩
abbrev S131072x2x32 : Shape := ⟨3, ![131072, 2, 32]⟩
abbrev S131072x1x2x64 : Shape := ⟨4, ![131072, 1, 2, 64]⟩
abbrev S131072x1x1x64 : Shape := ⟨4, ![131072, 1, 1, 64]⟩
abbrev S131072x1x64 : Shape := ⟨3, ![131072, 1, 64]⟩
abbrev S8192x64x2x1 : Shape := ⟨4, ![8192, 64, 2, 1]⟩
abbrev S8192x64x1x1 : Shape := ⟨4, ![8192, 64, 1, 1]⟩
abbrev S8192x64x1 : Shape := ⟨3, ![8192, 64, 1]⟩
abbrev S8192x32x2x2 : Shape := ⟨4, ![8192, 32, 2, 2]⟩
abbrev S8192x32x1x2 : Shape := ⟨4, ![8192, 32, 1, 2]⟩
abbrev S8192x32x2 : Shape := ⟨3, ![8192, 32, 2]⟩
abbrev S8192x16x2x4 : Shape := ⟨4, ![8192, 16, 2, 4]⟩
abbrev S8192x16x1x4 : Shape := ⟨4, ![8192, 16, 1, 4]⟩
abbrev S8192x16x4 : Shape := ⟨3, ![8192, 16, 4]⟩
abbrev S8192x8x2x8 : Shape := ⟨4, ![8192, 8, 2, 8]⟩
abbrev S8192x8x1x8 : Shape := ⟨4, ![8192, 8, 1, 8]⟩
abbrev S8192x8x8 : Shape := ⟨3, ![8192, 8, 8]⟩
abbrev S8192x4x2x16 : Shape := ⟨4, ![8192, 4, 2, 16]⟩
abbrev S8192x4x1x16 : Shape := ⟨4, ![8192, 4, 1, 16]⟩
abbrev S8192x4x16 : Shape := ⟨3, ![8192, 4, 16]⟩
abbrev S8192x2x2x32 : Shape := ⟨4, ![8192, 2, 2, 32]⟩
abbrev S8192x2x1x32 : Shape := ⟨4, ![8192, 2, 1, 32]⟩
abbrev S8192x2x32 : Shape := ⟨3, ![8192, 2, 32]⟩
abbrev S8192x1x2x64 : Shape := ⟨4, ![8192, 1, 2, 64]⟩
abbrev S8192x1x1x64 : Shape := ⟨4, ![8192, 1, 1, 64]⟩

abbrev nBuf : Space → Nat
  | .hbm => 260
  | .vmem => 0
  | .smem => 0
  | _ => 0

abbrev hbmTy0_0 (i : Nat) : BufTy := match i % 128 with
  | 0 => ⟨S8192x1536, .f32⟩
  | 1 => ⟨S8192x2048, .f32⟩
  | 2 => ⟨S8192, .i32⟩
  | 3 => ⟨S1536x2048, .f32⟩
  | 4 => ⟨S2048x128, .f32⟩
  | 5 => ⟨S128, .f32⟩
  | 6 => ⟨S128, .f32⟩
  | 7 => ⟨S32, .f32⟩
  | 8 => ⟨S32, .f32⟩
  | 9 => ⟨S8192x2048, .f32⟩
  | 10 => ⟨S8192x16x128, .f32⟩
  | 11 => ⟨S8192x128, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S8192x128, .f32⟩
  | 19 => ⟨S8192x128, .f32⟩
  | 20 => ⟨S8192x128, .f32⟩
  | 21 => ⟨S_, .f32⟩
  | 22 => ⟨S8192, .f32⟩
  | 23 => ⟨S8192x1, .f32⟩
  | 24 => ⟨S_, .f32⟩
  | 25 => ⟨S8192x1, .f32⟩
  | 26 => ⟨S8192x1, .f32⟩
  | 27 => ⟨S8192x128, .f32⟩
  | 28 => ⟨S8192x128, .f32⟩
  | 29 => ⟨S_, .f32⟩
  | 30 => ⟨S8192x1, .f32⟩
  | 31 => ⟨S8192x1, .f32⟩
  | 32 => ⟨S8192x1, .f32⟩
  | 33 => ⟨S8192x128, .f32⟩
  | 34 => ⟨S8192x128, .f32⟩
  | 35 => ⟨S1x128, .f32⟩
  | 36 => ⟨S8192x128, .f32⟩
  | 37 => ⟨S8192x128, .f32⟩
  | 38 => ⟨S1x128, .f32⟩
  | 39 => ⟨S8192x128, .f32⟩
  | 40 => ⟨S8192x128, .f32⟩
  | 41 => ⟨S8192x16x64, .f32⟩
  | 42 => ⟨S8192x16x32, .f32⟩
  | 43 => ⟨S8192x16x32, .f32⟩
  | 44 => ⟨S8192x16x64, .f32⟩
  | 45 => ⟨S8192x64, .f32⟩
  | 46 => ⟨S8192x1x64, .f32⟩
  | 47 => ⟨S8192x1x32, .f32⟩
  | 48 => ⟨S8192x1x32, .f32⟩
  | 49 => ⟨S8192x1x64, .f32⟩
  | 50 => ⟨S8192, .f32⟩
  | 51 => ⟨S8192x1, .f32⟩
  | 52 => ⟨S1x32, .f32⟩
  | 53 => ⟨S8192x32, .f32⟩
  | 54 => ⟨S8192x32, .f32⟩
  | 55 => ⟨S8192x32, .f32⟩
  | 56 => ⟨S8192x32, .f32⟩
  | 57 => ⟨S8192x1x32, .f32⟩
  | 58 => ⟨S8192x32, .f32⟩
  | 59 => ⟨S8192x1x32, .f32⟩
  | 60 => ⟨S8192x16x32, .f32⟩
  | 61 => ⟨S8192x16x32, .f32⟩
  | 62 => ⟨S8192x16x32, .f32⟩
  | 63 => ⟨S8192x16x32, .f32⟩
  | 64 => ⟨S8192x16x32, .f32⟩
  | 65 => ⟨S8192x16x32, .f32⟩
  | 66 => ⟨S8192x16x32, .f32⟩
  | 67 => ⟨S8192x16x32, .f32⟩
  | 68 => ⟨S8192x16x32, .f32⟩
  | 69 => ⟨S8192x16x32, .f32⟩
  | 70 => ⟨S8192x16x32, .f32⟩
  | 71 => ⟨S8192x16x32, .f32⟩
  | 72 => ⟨S8192x16x64, .f32⟩
  | 73 => ⟨S8192, .f32⟩
  | 74 => ⟨S8192x1, .f32⟩
  | 75 => ⟨S1x32, .f32⟩
  | 76 => ⟨S8192x32, .f32⟩
  | 77 => ⟨S8192x32, .f32⟩
  | 78 => ⟨S8192x32, .f32⟩
  | 79 => ⟨S8192x32, .f32⟩
  | 80 => ⟨S8192x1x32, .f32⟩
  | 81 => ⟨S8192x32, .f32⟩
  | 82 => ⟨S8192x1x32, .f32⟩
  | 83 => ⟨S8192x1x32, .f32⟩
  | 84 => ⟨S8192x1x32, .f32⟩
  | 85 => ⟨S8192x1x32, .f32⟩
  | 86 => ⟨S8192x1x32, .f32⟩
  | 87 => ⟨S8192x1x32, .f32⟩
  | 88 => ⟨S8192x1x32, .f32⟩
  | 89 => ⟨S8192x1x32, .f32⟩
  | 90 => ⟨S8192x1x32, .f32⟩
  | 91 => ⟨S8192x1x64, .f32⟩
  | 92 => ⟨S8192x16x64, .f32⟩
  | 93 => ⟨S8192x16x128, .f32⟩
  | 94 => ⟨S8192x64, .f32⟩
  | 95 => ⟨S8192x64, .f32⟩
  | 96 => ⟨S8192x128, .f32⟩
  | 97 => ⟨S131072x128, .f32⟩
  | 98 => ⟨S131072x64x2x1, .f32⟩
  | 99 => ⟨S131072x64x1x1, .f32⟩
  | 100 => ⟨S131072x64x1, .f32⟩
  | 101 => ⟨S131072x64x1x1, .f32⟩
  | 102 => ⟨S131072x64x1, .f32⟩
  | 103 => ⟨S131072x64x1, .f32⟩
  | 104 => ⟨S131072x64x1, .f32⟩
  | 105 => ⟨S131072x64x1x1, .f32⟩
  | 106 => ⟨S131072x64x1x1, .f32⟩
  | 107 => ⟨S131072x64x2x1, .f32⟩
  | 108 => ⟨S131072x128, .f32⟩
  | 109 => ⟨S131072x32x2x2, .f32⟩
  | 110 => ⟨S131072x32x1x2, .f32⟩
  | 111 => ⟨S131072x32x2, .f32⟩
  | 112 => ⟨S131072x32x1x2, .f32⟩
  | 113 => ⟨S131072x32x2, .f32⟩
  | 114 => ⟨S131072x32x2, .f32⟩
  | 115 => ⟨S131072x32x2, .f32⟩
  | 116 => ⟨S131072x32x1x2, .f32⟩
  | 117 => ⟨S131072x32x1x2, .f32⟩
  | 118 => ⟨S131072x32x2x2, .f32⟩
  | 119 => ⟨S131072x128, .f32⟩
  | 120 => ⟨S131072x16x2x4, .f32⟩
  | 121 => ⟨S131072x16x1x4, .f32⟩
  | 122 => ⟨S131072x16x4, .f32⟩
  | 123 => ⟨S131072x16x1x4, .f32⟩
  | 124 => ⟨S131072x16x4, .f32⟩
  | 125 => ⟨S131072x16x4, .f32⟩
  | 126 => ⟨S131072x16x4, .f32⟩
  | 127 => ⟨S131072x16x1x4, .f32⟩
  | _ => ⟨S8192x1536, .f32⟩

abbrev hbmTy0_1 (i : Nat) : BufTy := match i % 128 with
  | 0 => ⟨S131072x16x1x4, .f32⟩
  | 1 => ⟨S131072x16x2x4, .f32⟩
  | 2 => ⟨S131072x128, .f32⟩
  | 3 => ⟨S131072x8x2x8, .f32⟩
  | 4 => ⟨S131072x8x1x8, .f32⟩
  | 5 => ⟨S131072x8x8, .f32⟩
  | 6 => ⟨S131072x8x1x8, .f32⟩
  | 7 => ⟨S131072x8x8, .f32⟩
  | 8 => ⟨S131072x8x8, .f32⟩
  | 9 => ⟨S131072x8x8, .f32⟩
  | 10 => ⟨S131072x8x1x8, .f32⟩
  | 11 => ⟨S131072x8x1x8, .f32⟩
  | 12 => ⟨S131072x8x2x8, .f32⟩
  | 13 => ⟨S131072x128, .f32⟩
  | 14 => ⟨S131072x4x2x16, .f32⟩
  | 15 => ⟨S131072x4x1x16, .f32⟩
  | 16 => ⟨S131072x4x16, .f32⟩
  | 17 => ⟨S131072x4x1x16, .f32⟩
  | 18 => ⟨S131072x4x16, .f32⟩
  | 19 => ⟨S131072x4x16, .f32⟩
  | 20 => ⟨S131072x4x16, .f32⟩
  | 21 => ⟨S131072x4x1x16, .f32⟩
  | 22 => ⟨S131072x4x1x16, .f32⟩
  | 23 => ⟨S131072x4x2x16, .f32⟩
  | 24 => ⟨S131072x128, .f32⟩
  | 25 => ⟨S131072x2x2x32, .f32⟩
  | 26 => ⟨S131072x2x1x32, .f32⟩
  | 27 => ⟨S131072x2x32, .f32⟩
  | 28 => ⟨S131072x2x1x32, .f32⟩
  | 29 => ⟨S131072x2x32, .f32⟩
  | 30 => ⟨S131072x2x32, .f32⟩
  | 31 => ⟨S131072x2x32, .f32⟩
  | 32 => ⟨S131072x2x1x32, .f32⟩
  | 33 => ⟨S131072x2x1x32, .f32⟩
  | 34 => ⟨S131072x2x2x32, .f32⟩
  | 35 => ⟨S131072x128, .f32⟩
  | 36 => ⟨S131072x1x2x64, .f32⟩
  | 37 => ⟨S131072x1x1x64, .f32⟩
  | 38 => ⟨S131072x1x64, .f32⟩
  | 39 => ⟨S131072x1x1x64, .f32⟩
  | 40 => ⟨S131072x1x64, .f32⟩
  | 41 => ⟨S131072x1x64, .f32⟩
  | 42 => ⟨S131072x1x64, .f32⟩
  | 43 => ⟨S131072x1x1x64, .f32⟩
  | 44 => ⟨S131072x1x1x64, .f32⟩
  | 45 => ⟨S131072x1x2x64, .f32⟩
  | 46 => ⟨S131072x128, .f32⟩
  | 47 => ⟨S_, .f32⟩
  | 48 => ⟨S131072x128, .f32⟩
  | 49 => ⟨S131072x128, .f32⟩
  | 50 => ⟨S8192x16x128, .f32⟩
  | 51 => ⟨S8192x64x2x1, .f32⟩
  | 52 => ⟨S8192x64x1x1, .f32⟩
  | 53 => ⟨S8192x64x1, .f32⟩
  | 54 => ⟨S8192x64x1x1, .f32⟩
  | 55 => ⟨S8192x64x1, .f32⟩
  | 56 => ⟨S8192x64x1, .f32⟩
  | 57 => ⟨S8192x64x1, .f32⟩
  | 58 => ⟨S8192x64x1x1, .f32⟩
  | 59 => ⟨S8192x64x1x1, .f32⟩
  | 60 => ⟨S8192x64x2x1, .f32⟩
  | 61 => ⟨S8192x128, .f32⟩
  | 62 => ⟨S8192x32x2x2, .f32⟩
  | 63 => ⟨S8192x32x1x2, .f32⟩
  | 64 => ⟨S8192x32x2, .f32⟩
  | 65 => ⟨S8192x32x1x2, .f32⟩
  | 66 => ⟨S8192x32x2, .f32⟩
  | 67 => ⟨S8192x32x2, .f32⟩
  | 68 => ⟨S8192x32x2, .f32⟩
  | 69 => ⟨S8192x32x1x2, .f32⟩
  | 70 => ⟨S8192x32x1x2, .f32⟩
  | 71 => ⟨S8192x32x2x2, .f32⟩
  | 72 => ⟨S8192x128, .f32⟩
  | 73 => ⟨S8192x16x2x4, .f32⟩
  | 74 => ⟨S8192x16x1x4, .f32⟩
  | 75 => ⟨S8192x16x4, .f32⟩
  | 76 => ⟨S8192x16x1x4, .f32⟩
  | 77 => ⟨S8192x16x4, .f32⟩
  | 78 => ⟨S8192x16x4, .f32⟩
  | 79 => ⟨S8192x16x4, .f32⟩
  | 80 => ⟨S8192x16x1x4, .f32⟩
  | 81 => ⟨S8192x16x1x4, .f32⟩
  | 82 => ⟨S8192x16x2x4, .f32⟩
  | 83 => ⟨S8192x128, .f32⟩
  | 84 => ⟨S8192x8x2x8, .f32⟩
  | 85 => ⟨S8192x8x1x8, .f32⟩
  | 86 => ⟨S8192x8x8, .f32⟩
  | 87 => ⟨S8192x8x1x8, .f32⟩
  | 88 => ⟨S8192x8x8, .f32⟩
  | 89 => ⟨S8192x8x8, .f32⟩
  | 90 => ⟨S8192x8x8, .f32⟩
  | 91 => ⟨S8192x8x1x8, .f32⟩
  | 92 => ⟨S8192x8x1x8, .f32⟩
  | 93 => ⟨S8192x8x2x8, .f32⟩
  | 94 => ⟨S8192x128, .f32⟩
  | 95 => ⟨S8192x4x2x16, .f32⟩
  | 96 => ⟨S8192x4x1x16, .f32⟩
  | 97 => ⟨S8192x4x16, .f32⟩
  | 98 => ⟨S8192x4x1x16, .f32⟩
  | 99 => ⟨S8192x4x16, .f32⟩
  | 100 => ⟨S8192x4x16, .f32⟩
  | 101 => ⟨S8192x4x16, .f32⟩
  | 102 => ⟨S8192x4x1x16, .f32⟩
  | 103 => ⟨S8192x4x1x16, .f32⟩
  | 104 => ⟨S8192x4x2x16, .f32⟩
  | 105 => ⟨S8192x128, .f32⟩
  | 106 => ⟨S8192x2x2x32, .f32⟩
  | 107 => ⟨S8192x2x1x32, .f32⟩
  | 108 => ⟨S8192x2x32, .f32⟩
  | 109 => ⟨S8192x2x1x32, .f32⟩
  | 110 => ⟨S8192x2x32, .f32⟩
  | 111 => ⟨S8192x2x32, .f32⟩
  | 112 => ⟨S8192x2x32, .f32⟩
  | 113 => ⟨S8192x2x1x32, .f32⟩
  | 114 => ⟨S8192x2x1x32, .f32⟩
  | 115 => ⟨S8192x2x2x32, .f32⟩
  | 116 => ⟨S8192x128, .f32⟩
  | 117 => ⟨S8192x1x2x64, .f32⟩
  | 118 => ⟨S8192x1x1x64, .f32⟩
  | 119 => ⟨S8192x1x64, .f32⟩
  | 120 => ⟨S8192x1x1x64, .f32⟩
  | 121 => ⟨S8192x1x64, .f32⟩
  | 122 => ⟨S8192x1x64, .f32⟩
  | 123 => ⟨S8192x1x64, .f32⟩
  | 124 => ⟨S8192x1x1x64, .f32⟩
  | 125 => ⟨S8192x1x1x64, .f32⟩
  | 126 => ⟨S8192x1x2x64, .f32⟩
  | 127 => ⟨S8192x128, .f32⟩
  | _ => ⟨S8192x1536, .f32⟩

abbrev hbmTy0_2 (i : Nat) : BufTy := match i % 128 with
  | 0 => ⟨S_, .f32⟩
  | 1 => ⟨S8192x128, .f32⟩
  | 2 => ⟨S8192x128, .f32⟩
  | 3 => ⟨S131072x128, .f32⟩
  | _ => ⟨S8192x1536, .f32⟩

abbrev hbmTy (i : Nat) : BufTy := match i / 128 with
  | 0 => hbmTy0_0 i
  | 1 => hbmTy0_1 i
  | 2 => hbmTy0_2 i
  | _ => ⟨S8192x1536, .f32⟩

abbrev bufTy : (tb : Table) → Fin (tcTables nBuf tb) → BufTy
  | .hbm, ⟨i, _⟩ => hbmTy i
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_cst_6 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_v201 : Ref sig .tc := ⟨.hbm, 216, rfl⟩
abbrev main_v202 : Ref sig .tc := ⟨.hbm, 217, rfl⟩
abbrev main_v203 : Ref sig .tc := ⟨.hbm, 218, rfl⟩
abbrev main_v204 : Ref sig .tc := ⟨.hbm, 219, rfl⟩
abbrev main_v205 : Ref sig .tc := ⟨.hbm, 220, rfl⟩
abbrev main_v206 : Ref sig .tc := ⟨.hbm, 221, rfl⟩
abbrev main_v207 : Ref sig .tc := ⟨.hbm, 222, rfl⟩
abbrev main_v208 : Ref sig .tc := ⟨.hbm, 223, rfl⟩
abbrev main_v209 : Ref sig .tc := ⟨.hbm, 224, rfl⟩
abbrev main_v210 : Ref sig .tc := ⟨.hbm, 225, rfl⟩
abbrev main_v211 : Ref sig .tc := ⟨.hbm, 226, rfl⟩
abbrev main_v212 : Ref sig .tc := ⟨.hbm, 227, rfl⟩
abbrev main_v213 : Ref sig .tc := ⟨.hbm, 228, rfl⟩
abbrev main_v214 : Ref sig .tc := ⟨.hbm, 229, rfl⟩
abbrev main_v215 : Ref sig .tc := ⟨.hbm, 230, rfl⟩
abbrev main_v216 : Ref sig .tc := ⟨.hbm, 231, rfl⟩
abbrev main_v217 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_v223 : Ref sig .tc := ⟨.hbm, 238, rfl⟩
abbrev main_v224 : Ref sig .tc := ⟨.hbm, 239, rfl⟩
abbrev main_v225 : Ref sig .tc := ⟨.hbm, 240, rfl⟩
abbrev main_v226 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_cst_7 : Ref sig .tc := ⟨.hbm, 256, rfl⟩
abbrev main_v241 : Ref sig .tc := ⟨.hbm, 257, rfl⟩
abbrev main_v242 : Ref sig .tc := ⟨.hbm, 258, rfl⟩
abbrev main_v243 : Ref sig .tc := ⟨.hbm, 259, rfl⟩

abbrev nD : Nat := 1
abbrev τ : Topo := Topo.v7x

variable {F : FTy → Type} [FloatOps F]
-- ==== Proof.Signs.lean ====
/-
  The Walsh-Hadamard transform of a row of real numbers, as a chain of butterflies and as a matrix of signs.

  A row is a function on the natural numbers of which only the first entries are read. `butterfly h x` adds and
  subtracts entries at distance `h`; `stages m x` is the butterflies at distances 1, 2, …, 2^(m-1) in turn. The entry
  `(i, k)` of the sign matrix is minus one to the number of common one bits of `i` and `k`. `stages_eq` says that the
  chain of butterflies is the product with the sign matrix, block of `2^m` entries by block.
-/
module

public import Mathlib.Data.Real.Basic
public import Mathlib.Algebra.BigOperators.Fin
public import Mathlib.Algebra.BigOperators.Intervals
public import Mathlib.Tactic.Ring
public import Mathlib.Tactic.Linarith

@[expose] public section

noncomputable section

namespace Cert.Hadamard

open Finset

/-- One butterfly at distance `h`: in each pair of runs of `h` entries the first run becomes the sums, the second the
    differences, first minus second. -/
def butterfly (h : ℕ) (x : ℕ → ℝ) (k : ℕ) : ℝ :=
  if k / h % 2 = 0 then x k + x (k + h) else x (k - h) - x k

/-- The butterflies at distances 1, 2, 4, …, `2^(m-1)`, in this order. -/
def stages : ℕ → (ℕ → ℝ) → ℕ → ℝ
  | 0, x => x
  | m + 1, x => butterfly (2 ^ m) (stages m x)

/-- Whether the lowest `m` bits of `i` and `k` have an odd number of common ones. -/
def odd : ℕ → ℕ → ℕ → Bool
  | 0, _, _ => false
  | m + 1, i, k => (odd m i k) ^^ (i / 2 ^ m % 2 == 1 && k / 2 ^ m % 2 == 1)

/-- The entry `(i, k)` of the sign matrix over `m` bits. -/
def sign (m i k : ℕ) : ℝ := if odd m i k then -1 else 1

/-- The parity reads the lowest `m` bits of its first argument only. -/
theorem odd_add_left (m i k a : ℕ) : odd m (i + 2 ^ m * a) k = odd m i k := by
  induction m generalizing a with
  | zero => rfl
  | succ m ih =>
    have e : i + 2 ^ (m + 1) * a = i + 2 ^ m * (2 * a) := by rw [pow_succ]; ring
    have e2 : (i + 2 ^ m * (2 * a)) / 2 ^ m % 2 = i / 2 ^ m % 2 := by
      rw [Nat.add_mul_div_left _ _ (by positivity)]; omega
    simp only [odd]
    rw [e, ih, e2]

/-- The parity reads the lowest `m` bits of its second argument only. -/
theorem odd_add_right (m i k a : ℕ) : odd m i (k + 2 ^ m * a) = odd m i k := by
  induction m generalizing a with
  | zero => rfl
  | succ m ih =>
    have e : k + 2 ^ (m + 1) * a = k + 2 ^ m * (2 * a) := by rw [pow_succ]; ring
    have e2 : (k + 2 ^ m * (2 * a)) / 2 ^ m % 2 = k / 2 ^ m % 2 := by
      rw [Nat.add_mul_div_left _ _ (by positivity)]; omega
    simp only [odd]
    rw [e, ih, e2]

/-- A new highest bit that is zero in `i` leaves the sign. -/
theorem sign_succ_low (m i k : ℕ) (hi : i < 2 ^ m) : sign (m + 1) i k = sign m i k := by
  have : i / 2 ^ m = 0 := Nat.div_eq_of_lt hi
  simp [sign, odd, this]

/-- A new highest bit that is one in `i` and zero in `k` leaves the sign. -/
theorem sign_succ_even (m i k : ℕ) (hk : k / 2 ^ m % 2 = 0) : sign (m + 1) i k = sign m i k := by
  simp [sign, odd, hk]

/-- A new highest bit that is one in `i` and in `k` turns the sign. -/
theorem sign_succ_odd (m i k : ℕ) (hi : i < 2 ^ m) (hk : k / 2 ^ m % 2 = 1) :
    sign (m + 1) (2 ^ m + i) k = -sign m i k := by
  have h1 : (2 ^ m + i) / 2 ^ m = 1 := by
    rw [Nat.add_div_left _ (by positivity), Nat.div_eq_of_lt hi]
  have h2 : odd m (2 ^ m + i) k = odd m i k := by
    have := odd_add_left m i k 1
    rwa [mul_one, add_comm] at this
  unfold sign
  simp only [odd, h1, h2, hk]
  cases odd m i k <;> simp

/-- The sign reads the lowest `m` bits of `k` only: moving `k` up by `2^m` changes nothing. -/
theorem sign_add_right (m i k : ℕ) : sign m i (k + 2 ^ m) = sign m i k := by
  have := odd_add_right m i k 1
  rw [mul_one] at this
  simp [sign, this]

/-- After `m` stages the entry at `k` is the signed sum of the block of `2^m` entries that `k` lies in. -/
theorem stages_eq (m : ℕ) (x : ℕ → ℝ) (k : ℕ) :
    stages m x k = ∑ i ∈ range (2 ^ m), sign m i k * x (2 ^ m * (k / 2 ^ m) + i) := by
  induction m generalizing k with
  | zero => simp [stages, sign, odd]
  | succ m ih =>
    have hp : 0 < 2 ^ m := by positivity
    have hd : k / 2 ^ (m + 1) = k / 2 ^ m / 2 := by rw [pow_succ, Nat.div_div_eq_div_mul]
    have hsplit : (2 : ℕ) ^ (m + 1) = 2 ^ m + 2 ^ m := by rw [pow_succ]; ring
    rw [stages, hd]
    conv_rhs => rw [hsplit, sum_range_add]
    unfold butterfly
    by_cases h0 : k / 2 ^ m % 2 = 0
    · rw [if_pos h0, ih, ih]
      have hb : (2 ^ m + 2 ^ m) * (k / 2 ^ m / 2) = 2 ^ m * (k / 2 ^ m) := by
        have : k / 2 ^ m = 2 * (k / 2 ^ m / 2) := by omega
        conv_rhs => rw [this]
        ring
      have hb2 : (k + 2 ^ m) / 2 ^ m = k / 2 ^ m + 1 := Nat.add_div_right _ hp
      rw [hb, hb2]
      congr 1
      · exact sum_congr rfl fun i hi => by rw [sign_succ_low m i k (mem_range.1 hi)]
      · refine sum_congr rfl fun i hi => ?_
        rw [sign_add_right, sign_succ_even m _ k h0]
        have h2 : odd m (2 ^ m + i) k = odd m i k := by
          have := odd_add_left m i k 1
          rwa [mul_one, add_comm] at this
        have h3 : sign m (2 ^ m + i) k = sign m i k := by simp [sign, h2]
        rw [h3, mul_add, mul_one, add_assoc]
    · have h1 : k / 2 ^ m % 2 = 1 := by omega
      have hk : 2 ^ m ≤ k := by
        by_contra hlt
        rw [Nat.div_eq_of_lt (by omega)] at h1
        omega
      rw [if_neg h0, ih, ih]
      obtain ⟨k', rfl⟩ : ∃ k', k = k' + 2 ^ m := ⟨k - 2 ^ m, by omega⟩
      rw [Nat.add_sub_cancel, Nat.add_div_right _ hp] at *
      have hb : (2 ^ m + 2 ^ m) * ((k' / 2 ^ m + 1) / 2) = 2 ^ m * (k' / 2 ^ m) := by
        have : k' / 2 ^ m = 2 * ((k' / 2 ^ m + 1) / 2) := by omega
        conv_rhs => rw [this]
        ring
      rw [hb, sub_eq_add_neg, ← sum_neg_distrib]
      congr 1
      · refine sum_congr rfl fun i hi => ?_
        rw [sign_succ_low m i _ (mem_range.1 hi), sign_add_right]
      · refine sum_congr rfl fun i hi => ?_
        rw [sign_succ_odd m i _ (mem_range.1 hi) (by rw [Nat.add_div_right _ hp]; exact h1), neg_mul, mul_add, mul_one,
          add_assoc]

/-- Seven stages on a row of 128 entries are the product with the sign matrix over seven bits. -/
theorem stages_seven (x : ℕ → ℝ) (k : ℕ) (hk : k < 128) :
    stages 7 x k = ∑ j : Fin 128, sign 7 j.val k * x j.val := by
  rw [stages_eq, show (2 : ℕ) ^ 7 = 128 from rfl, Nat.div_eq_of_lt hk, Finset.sum_range]
  exact sum_congr rfl fun i _ => by rw [Nat.mul_zero, Nat.zero_add]

end Cert.Hadamard

end
-- ==== Proof.Rotate.lean ====
/-
  The rotation of one row of 128 lanes, on real numbers, in the two ways it is written.

  The reference deals the first 64 lanes into their even and their odd members, rotates the pair `(even l, odd l)` by the
  angle whose cosine and sine are `c l` and `s l`, and passes the last 64 lanes on. The kernel leaves every lane where
  it is and adds to `x j * c1 j` the left neighbour and the right neighbour of the lane, each times a coefficient that
  is zero where that neighbour is not the lane's partner; the dealing is in the rows of its sign matrix. `row_eq` is
  the equality of the two after the Hadamard matrix and the scale.
-/
module

public import proofs.«01_k».proof.Proof.Signs

@[expose] public section

noncomputable section

namespace Cert.Hadamard

open Finset

/-- The rotated row: dealt into halves and rotated below lane 64, unchanged from there. -/
def turn (c s x : ℕ → ℝ) (l : ℕ) : ℝ :=
  if l < 32 then x (2 * l) * c l - x (2 * l + 1) * s l
  else if l < 64 then x (2 * (l - 32) + 1) * c (l - 32) + x (2 * (l - 32)) * s (l - 32)
  else x l

/-- Where the dealing sends lane `j`. -/
def deal (j : ℕ) : ℕ := if j < 64 then (if j % 2 = 0 then j / 2 else 32 + j / 2) else j

/-- The dealing as a permutation of the 128 lanes. -/
def dealEquiv : Fin 128 ≃ Fin 128 where
  toFun j := ⟨deal j.val, by have := j.isLt; unfold deal; split_ifs <;> omega⟩
  invFun l := ⟨if l.val < 32 then 2 * l.val else if l.val < 64 then 2 * (l.val - 32) + 1 else l.val, by
    have := l.isLt; split_ifs <;> omega⟩
  left_inv j := by
    refine Fin.ext ?_
    have := j.isLt
    simp only [deal]
    split_ifs <;> omega
  right_inv l := by
    refine Fin.ext ?_
    have := l.isLt
    simp only [deal]
    split_ifs <;> omega

/-- The coefficient of the lane itself. -/
def own (c : ℕ → ℝ) (w : ℝ) (j : ℕ) : ℝ := if j < 64 then c (j / 2) * w else w

/-- The coefficient of the lane to the right: the even lanes below 64 take it. -/
def fromRight (s : ℕ → ℝ) (w : ℝ) (j : ℕ) : ℝ := if j < 64 ∧ j % 2 = 0 then s (j / 2) * (-w) else 0

/-- The coefficient of the lane to the left: the odd lanes below 64 take it. -/
def fromLeft (s : ℕ → ℝ) (w : ℝ) (j : ℕ) : ℝ := if j < 64 ∧ j % 2 = 1 then s (j / 2) * w else 0

/-- The finished row: rotated, Hadamard-transformed, scaled by `w`. -/
def finish (c s : ℕ → ℝ) (w : ℝ) (x : ℕ → ℝ) (k : ℕ) : ℝ := (∑ i : Fin 128, sign 7 i.val k * turn c s x i.val) * w

/-- One lane of the kernel's combination is the rotated row at the lane's dealt place, scaled. -/
theorem lane_eq (c s x xl xr : ℕ → ℝ) (w : ℝ) (j : ℕ)
    (hl : j < 64 → j % 2 = 0 → xl j = x (j + 1)) (hr : j < 64 → j % 2 = 1 → xr j = x (j - 1)) :
    x j * own c w j + xl j * fromRight s w j + xr j * fromLeft s w j = turn c s x (deal j) * w := by
  unfold own fromRight fromLeft
  by_cases h64 : j < 64
  · rcases Nat.mod_two_eq_zero_or_one j with h0 | h1
    · have e : deal j = j / 2 := by simp [deal, h64, h0]
      have t : turn c s x (j / 2) = x j * c (j / 2) - x (j + 1) * s (j / 2) := by
        unfold turn
        rw [if_pos (by omega), show 2 * (j / 2) = j by omega]
      rw [e, t, if_pos h64, if_pos ⟨h64, h0⟩, if_neg (by omega), hl h64 h0]
      ring
    · have e : deal j = 32 + j / 2 := by simp [deal, h64, h1]
      have t : turn c s x (32 + j / 2) = x j * c (j / 2) + x (j - 1) * s (j / 2) := by
        unfold turn
        rw [if_neg (by omega), if_pos (by omega), show 32 + j / 2 - 32 = j / 2 by omega,
          show 2 * (j / 2) + 1 = j by omega, show 2 * (j / 2) = j - 1 by omega]
      rw [e, t, if_pos h64, if_neg (by omega), if_pos ⟨h64, h1⟩, hr h64 h1]
      ring
  · have e : deal j = j := by simp [deal, h64]
    have t : turn c s x j = x j := by
      unfold turn
      rw [if_neg (by omega), if_neg h64]
    rw [e, t, if_neg h64, if_neg (by omega), if_neg (by omega)]
    ring

/-- The kernel's row, multiplied by the sign matrix with its rows dealt, is the finished row. -/
theorem row_eq (c s x xl xr : ℕ → ℝ) (w : ℝ) (k : ℕ)
    (hl : ∀ j < 64, j % 2 = 0 → xl j = x (j + 1)) (hr : ∀ j < 64, j % 2 = 1 → xr j = x (j - 1)) :
    ∑ j : Fin 128, (x j.val * own c w j.val + xl j.val * fromRight s w j.val + xr j.val * fromLeft s w j.val)
      * sign 7 (deal j.val) k = finish c s w x k := by
  unfold finish
  rw [sum_mul, ← Equiv.sum_comp dealEquiv fun i : Fin 128 => sign 7 i.val k * turn c s x i.val * w]
  refine sum_congr rfl fun j _ => ?_
  rw [lane_eq c s x xl xr w j.val (hl j.val) (hr j.val)]
  show _ = sign 7 (deal j.val) k * turn c s x (deal j.val) * w
  ring

/-- The seven butterflies over a long sequence whose runs of 128 are the rotated rows: the entry at row `r`, lane `k`,
scaled, is the finished row. -/
theorem stages_row (c s x : ℕ → ℕ → ℝ) (w : ℝ) (r k : ℕ) (hk : k < 128) :
    stages 7 (fun n => turn (c (n / 128)) (s (n / 128)) (x (n / 128)) (n % 128)) (r * 128 + k) * w
      = finish (c r) (s r) w (x r) k := by
  unfold finish
  rw [stages_eq, sum_range]
  congr 1
  refine sum_congr rfl fun i _ => ?_
  have hi : i.val < 128 := i.isLt
  have e : sign 7 i.val (r * 128 + k) = sign 7 i.val k := by
    have := odd_add_right 7 i.val k r
    unfold sign
    rw [show r * 128 + k = k + 2 ^ 7 * r by ring, this]
  rw [e]
  congr 1
  have d : 2 ^ 7 * ((r * 128 + k) / 2 ^ 7) + i.val = r * 128 + i.val := by
    norm_num
    omega
  rw [d]
  rw [show (r * 128 + i.val) / 128 = r by omega, show (r * 128 + i.val) % 128 = i.val by omega]

end Cert.Hadamard

end
-- ==== Proof.Entries.lean ====
/-
  Entries that are real numbers: what the precondition gives, the constants of the two programs as real numbers, and the
  extended-real operations of the two programs on them.
-/
module

public import proofs.«01_k».proof.Defs
public import proofs.«01_k».proof.Proof.Gen.Pre_finite
public import Idealize.ShloMosaic.Lib.Pointwise
public import Idealize.ShloMosaic.Lib.ReduceAll
public import Idealize.ShloMosaic.Lib.Affine
public import Idealize.ShloMosaic.Lib.IdealHost

@[expose] public section

set_option maxRecDepth 16384

noncomputable section

namespace Cert.Hadamard

open Idealize.ShloMosaic

/-! ## Real operations inside the extended reals -/

/-- A finite sum of real numbers is the same number in the extended reals. -/
theorem coe_sum {ι : Type} (s : Finset ι) (f : ι → ℝ) : ((∑ i ∈ s, f i : ℝ) : EReal) = ∑ i ∈ s, (f i : EReal) := by
  induction s using Finset.cons_induction with
  | empty => rfl
  | cons a s ha ih => rw [Finset.sum_cons, Finset.sum_cons, EReal.coe_add, ih]

/-- A number whose absolute value is below infinity is real. -/
theorem real_of_abs_lt {x : EReal} (h : max x (-x) < ⊤) : x = ((x.toReal : ℝ) : EReal) := by
  refine (EReal.coe_toReal ?_ ?_).symm
  · rintro rfl
    simp at h
  · rintro rfl
    simp at h

/-- The pattern of infinity. -/
theorem bits_top : Ideal.ofBits .f32 0x7F800000#32 = ⊤ := by simp [Ideal.ofBits, Ideal.ieee]

/-- A compare that answers yes to `|x| < infinity` says that `x` is real. -/
theorem real_of_cmp {x y : EReal} (hy : y = ⊤) (h : FloatOps.cmpf (F := Ideal) (φ := .f32) .olt (FloatOps.absf (F := Ideal) (φ := .f32) x) y = 1#1) :
    x = ((x.toReal : ℝ) : EReal) := by
  rw [Ideal.cmpf_def, Ideal.absf_def, hy] at h
  refine real_of_abs_lt ?_
  by_contra hn
  simp [Ideal.cmp, hn] at h

/-! ## What the precondition says -/

variable [Cert.Pre_finite.Facts]

/-- Under the precondition every entry of every float argument is a real number. -/
theorem finite_entries (a0 : FVec Ideal ⟨2, ![8192, 1536]⟩ .f32) (a1 : FVec Ideal ⟨2, ![8192, 2048]⟩ .f32)
    (a2 : IVec ⟨1, ![8192]⟩ 32) (a3 : FVec Ideal ⟨2, ![1536, 2048]⟩ .f32) (a4 : FVec Ideal ⟨2, ![2048, 128]⟩ .f32)
    (a5 a6 : FVec Ideal ⟨1, ![128]⟩ .f32)
    (h : Cert.Pre_finite.fn a0 a1 a2 a3 a4 a5 a6 = fun _ => 1#1) :
    (∀ i, a0 i = ((EReal.toReal (a0 i) : ℝ) : EReal)) ∧ (∀ i, a1 i = ((EReal.toReal (a1 i) : ℝ) : EReal)) ∧
    (∀ i, a3 i = ((EReal.toReal (a3 i) : ℝ) : EReal)) ∧ (∀ i, a4 i = ((EReal.toReal (a4 i) : ℝ) : EReal)) ∧
    (∀ i, a5 i = ((EReal.toReal (a5 i) : ℝ) : EReal)) ∧ (∀ i, a6 i = ((EReal.toReal (a6 i) : ℝ) : EReal)) := by
  have e := congrFun h ix0
  unfold Cert.Pre_finite.fn Cert.Pre_finite.fn_part1 at e
  dsimp only at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e0, e1⟩ := IntOp.andi_eq_one.1 e
  haveI : Subsingleton Cert.Pre_finite.S_.Idx := ⟨fun a b => funext fun k => k.elim0⟩
  refine ⟨fun i => ?_, fun i => ?_, fun i => ?_, fun i => ?_, fun i => ?_, fun i => ?_⟩
  · exact real_of_cmp bits_top (Host.reduce_andi_all _ _ _ _ _ e0 i)
  · exact real_of_cmp bits_top (Host.reduce_andi_all _ _ _ _ _ e1 i)
  · exact real_of_cmp bits_top (Host.reduce_andi_all _ _ _ _ _ e3 i)
  · exact real_of_cmp bits_top (Host.reduce_andi_all _ _ _ _ _ e4 i)
  · exact real_of_cmp bits_top (Host.reduce_andi_all _ _ _ _ _ e5 i)
  · exact real_of_cmp bits_top (Host.reduce_andi_all _ _ _ _ _ e6 i)

/-- The real entries of a matrix, by row and column. -/
def entry2 {n p : ℕ} (a : FVec Ideal ⟨2, ![n, p]⟩ .f32) (r l : ℕ) : ℝ :=
  if h : r < n ∧ l < p then EReal.toReal (a (ix2 ⟨r, h.1⟩ ⟨l, h.2⟩)) else 0

/-- The real entries of a vector. -/
def entry1 {n : ℕ} (a : FVec Ideal ⟨1, ![n]⟩ .f32) (r : ℕ) : ℝ :=
  if h : r < n then EReal.toReal (a (ix1 ⟨r, h⟩)) else 0

omit [Cert.Pre_finite.Facts] in
/-- A matrix of real entries, read through them. -/
theorem read2 {n p : ℕ} {a : FVec Ideal ⟨2, ![n, p]⟩ .f32} (h : ∀ i, a i = ((EReal.toReal (a i) : ℝ) : EReal))
    (r : Fin n) (l : Fin p) : a (ix2 r l) = ((entry2 a r.val l.val : ℝ) : EReal) := by
  unfold entry2
  rw [dif_pos ⟨r.isLt, l.isLt⟩]
  exact h _

omit [Cert.Pre_finite.Facts] in
/-- A vector of real entries, read through them. -/
theorem read1 {n : ℕ} {a : FVec Ideal ⟨1, ![n]⟩ .f32} (h : ∀ i, a i = ((EReal.toReal (a i) : ℝ) : EReal))
    (r : Fin n) : a (ix1 r) = ((entry1 a r.val : ℝ) : EReal) := by
  unfold entry1
  rw [dif_pos r.isLt]
  exact h _

/-! ## The constants -/

/-- The scale `128 ^ (-1/2)` as the programs hold it: the nearest single-precision number. -/
def scale : ℝ := 11863283 / 134217728

/-- The number added to the variance: the single-precision number nearest to `10 ^ (-5)`. -/
def small : ℝ := 10995116 / 1099511627776

omit [Cert.Pre_finite.Facts] in
/-- The number added to the variance is positive. -/
theorem small_pos : 0 < small := by unfold small; norm_num

omit [Cert.Pre_finite.Facts] in
/-- The pattern of the scale. -/
theorem bits_scale : Ideal.ofBits .f32 0x3DB504F3#32 = ((scale : ℝ) : EReal) := by
  unfold scale
  simp [Ideal.ofBits, Ideal.ieee, -EReal.coe_mul]; norm_num

omit [Cert.Pre_finite.Facts] in
/-- The pattern of minus the scale. -/
theorem bits_neg_scale : Ideal.ofBits .f32 0xBDB504F3#32 = ((-scale : ℝ) : EReal) := by
  unfold scale
  simp [Ideal.ofBits, Ideal.ieee, -EReal.coe_mul, -EReal.coe_neg]; norm_num

omit [Cert.Pre_finite.Facts] in
/-- The pattern of the number added to the variance. -/
theorem bits_small : Ideal.ofBits .f32 0x3727C5AC#32 = ((small : ℝ) : EReal) := by
  unfold small
  simp [Ideal.ofBits, Ideal.ieee, -EReal.coe_mul]; norm_num

omit [Cert.Pre_finite.Facts] in
/-- The pattern of the number of lanes. -/
theorem bits_lanes : Ideal.ofBits .f32 0x43000000#32 = ((128 : ℝ) : EReal) := by
  simp [Ideal.ofBits, Ideal.ieee, -EReal.coe_mul]; norm_num

end Cert.Hadamard

end
-- ==== Proof.Spec.lean ====
/-
  What the two results are, on real numbers.

  Everything is indexed by natural numbers: a matrix of real entries is a function of row and column, and only the entries inside the
  matrix are ever read. `proj` is a product of two matrices, `normed` the layer norm of a row of 128, `angle` the angle
  of a position and a frequency.
-/
module

public import proofs.«01_k».proof.Proof.Rotate
public import proofs.«01_k».proof.Proof.Entries

@[expose] public section

set_option maxRecDepth 16384

noncomputable section

namespace Cert.Hadamard

open Idealize.ShloMosaic

/-- The entry of a matrix product with `n` terms. -/
def proj (n : ℕ) (a w : ℕ → ℕ → ℝ) (r l : ℕ) : ℝ := ∑ d : Fin n, a r d.val * w d.val l

/-- The mean of a row of 128. -/
def mean (x : ℕ → ℝ) : ℝ := (∑ j : Fin 128, x j.val) / 128

/-- The variance of a row of 128. -/
def spread (x : ℕ → ℝ) : ℝ := (∑ j : Fin 128, (x j.val - mean x) * (x j.val - mean x)) / 128

/-- The layer norm of a row of 128, with gain `g` and shift `b`. -/
def normed (g b x : ℕ → ℝ) (l : ℕ) : ℝ := (x l - mean x) * (Real.sqrt (spread x + small))⁻¹ * g l + b l

/-- The number that the reference's table of frequencies holds at place `i`. -/
def freq (i : ℕ) : ℝ := if h : i < 32 then EReal.toReal (Ideal.ofBits .f32 (Cert.ReferenceIdeal.lit0 ⟨i, h⟩)) else 0

/-- The position that the table of positions holds for token `r`. -/
def place (p : IVec ⟨1, ![8192]⟩ 32) (r : ℕ) : ℝ := if h : r < 8192 then ((p (ix1 ⟨r, h⟩)).toInt : ℝ) else 0

/-- The angle of position `p` at frequency `i`. -/
def angle (p : ℝ) (i : ℕ) : ℝ := p * freq i

/-- The query's row: row `R` of the result belongs to token `R / 16` and head `R % 16`. -/
def queryRow (a w : ℕ → ℕ → ℝ) (R l : ℕ) : ℝ := proj 1536 a w (R / 16) (128 * (R % 16) + l)

/-- The key's row: the layer norm of the projected row. -/
def keyRow (a w : ℕ → ℕ → ℝ) (g b : ℕ → ℝ) (r : ℕ) : ℕ → ℝ := normed g b fun l => proj 2048 a w r l

/-- The query, finished. -/
def query (p : ℕ → ℝ) (a w : ℕ → ℕ → ℝ) (R k : ℕ) : ℝ :=
  finish (fun i => Real.cos (angle (p (R / 16)) i)) (fun i => Real.sin (angle (p (R / 16)) i)) scale (queryRow a w R) k

/-- The key, finished. -/
def key (p : ℕ → ℝ) (a w : ℕ → ℕ → ℝ) (g b : ℕ → ℝ) (r k : ℕ) : ℝ :=
  finish (fun i => Real.cos (angle (p r) i)) (fun i => Real.sin (angle (p r) i)) scale (keyRow a w g b r) k

/-! ## The operations of the layer norm on real entries -/

/-- A variance is not negative. -/
theorem spread_nonneg (x : ℕ → ℝ) : 0 ≤ spread x :=
  div_nonneg (Finset.sum_nonneg fun _ _ => mul_self_nonneg _) (by norm_num)

/-- What the square root is taken of is positive. -/
theorem root_pos (x : ℕ → ℝ) : 0 < spread x + small := add_pos_of_nonneg_of_pos (spread_nonneg x) small_pos

/-- Division of real numbers by a real number that is not zero. -/
theorem div_real (a b : ℝ) (h : b ≠ 0) : Ideal.div (a : EReal) (b : EReal) = ((a / b : ℝ) : EReal) := by
  have hb : (b : EReal) ≠ 0 := fun e => h (by exact_mod_cast e)
  unfold Ideal.div
  rw [if_neg hb, div_eq_mul_inv, EReal.coe_mul, EReal.coe_inv]

/-- The square root of a positive real number. -/
theorem sqrt_real (v : ℝ) (h : 0 < v) : Ideal.sqrt (v : EReal) = ((Real.sqrt v : ℝ) : EReal) := by
  show (if v < 0 then ⊥ else _ : EReal) = _
  rw [if_neg (by linarith)]

/-- The reciprocal square root of a positive real number. -/
theorem rsqrt_real (v : ℝ) (h : 0 < v) : Ideal.rsqrt (v : EReal) = (((Real.sqrt v)⁻¹ : ℝ) : EReal) := by
  show (if v < 0 then ⊥ else if v = 0 then ⊤ else _ : EReal) = _
  rw [if_neg (by linarith), if_neg (by linarith)]

/-! ## The frequencies are real numbers -/

/-- A single-precision pattern whose exponent field is not full is a real number. -/
theorem bits_real (b : BitVec 32) (h : (b.extractLsb' 23 8).toNat ≠ 255) :
    Ideal.ofBits .f32 b = ((EReal.toReal (Ideal.ofBits .f32 b) : ℝ) : EReal) := by
  have key : ∃ v : ℝ, Ideal.ofBits .f32 b = (v : EReal) := by
    show ∃ v : ℝ, Ideal.ieee 8 23 b = (v : EReal)
    unfold Ideal.ieee
    dsimp only
    split_ifs with h1
    all_goals first | exact absurd h1 h | exact ⟨_, rfl⟩
  obtain ⟨v, e⟩ := key
  rw [e, EReal.toReal_coe]

/-- No frequency's exponent field is full. -/
theorem freq_exponent : ∀ i : Fin 32, ((Cert.ReferenceIdeal.lit0 i).extractLsb' 23 8).toNat ≠ 255 := by
  decide +kernel

/-- The reference's table of frequencies, read as real numbers. -/
theorem read_freq (i : Fin 32) : Ideal.ofBits .f32 (Cert.ReferenceIdeal.lit0 i) = ((freq i.val : ℝ) : EReal) := by
  unfold freq
  rw [dif_pos i.isLt]
  exact bits_real _ (freq_exponent i)

/-- The table of positions, read as real numbers. -/
theorem read_place (p : IVec ⟨1, ![8192]⟩ 32) (r : Fin 8192) :
    (((p (ix1 r)).toInt : ℝ) : EReal) = ((place p r.val : ℝ) : EReal) := by
  unfold place
  rw [dif_pos r.isLt]

end Cert.Hadamard

end
-- ==== Proof.Stage.lean ====
/-
  One butterfly stage of the reference, as array operations, on entries that are real numbers.

  The reference writes a stage at distance `h` as: view the array as rows of pairs of runs of `h` entries, take the two
  runs of each pair, and lay their sums and their differences next to each other. `Laid A x` says that the array `A`,
  read in row-major order, is the sequence of real numbers `x`; it does not see the shape, so every reshape keeps it.
  `stage` says that the stage's operations turn `x` into `butterfly h x`, at every shape.
-/
module

public import proofs.«01_k».proof.Proof.Signs
public import Idealize.ShloMosaic.PureOps
public import Idealize.ShloMosaic.Lib.Pointwise

@[expose] public section

noncomputable section

namespace Cert.Hadamard

open Idealize.ShloMosaic

/-- The array `A`, read in row-major order, is the sequence `x` of real numbers. -/
def Laid {s : Shape} (A : s.Idx → EReal) (x : ℕ → ℝ) : Prop :=
  ∀ j : s.Idx, A j = ((x (s.rowMajor j).val : ℝ) : EReal)

/-- A reshape does not change the row-major order. -/
theorem Laid.cast {s t : Shape} {A : s.Idx → EReal} {x : ℕ → ℝ} (hA : Laid A x) (h : s.ShapeCasts t) :
    Laid (shapeCast t A h) x := fun j => by
  show A (Shape.reshapeEquiv h j) = _
  rw [hA, Shape.rowMajor_reshapeEquiv]

/-- Row-major position in an array of `R` rows of `B` pairs of runs of `h`. -/
theorem position {R B D h : ℕ} (r : Fin R) (b : Fin B) (d : Fin D) (l : Fin h) :
    ((⟨4, ![R, B, D, h]⟩ : Shape).rowMajor (ix4 r b d l)).val = ((r.val * B + b.val) * D + d.val) * h + l.val := by
  rw [rowMajor_val4 _ (B * (D * h)) (D * h) h rfl rfl rfl]
  show r.val * (B * (D * h)) + b.val * (D * h) + d.val * h + l.val = _
  ring

/-- Dropping the axis of extent one that a run was taken along. -/
theorem drop_axis {R B h : ℕ} {α : Type} (A : (⟨4, ![R, B, 1, h]⟩ : Shape).Idx → α)
    (hc : (⟨4, ![R, B, 1, h]⟩ : Shape).ShapeCasts ⟨3, ![R, B, h]⟩) (r : Fin R) (b : Fin B) (l : Fin h) :
    shapeCast ⟨3, ![R, B, h]⟩ A hc (ix3 r b l) = A (ix4 r b 0 l) := by
  show A (Shape.reshapeEquiv hc (ix3 r b l)) = _
  congr 1
  refine Shape.reshapeEquiv_eq_of_rowMajor hc ?_
  rw [position, rowMajor_val3 _ (B * h) h rfl rfl]
  show ((r.val * B + b.val) * 1 + 0) * h + l.val = r.val * (B * h) + b.val * h + l.val
  ring

/-- Putting that axis back. -/
theorem add_axis {R B h : ℕ} {α : Type} (A : (⟨3, ![R, B, h]⟩ : Shape).Idx → α)
    (hb : (⟨3, ![R, B, h]⟩ : Shape).BroadcastsInDim ⟨4, ![R, B, 1, h]⟩ ![0, 1, 3])
    (r : Fin R) (b : Fin B) (d : Fin 1) (l : Fin h) :
    broadcastInDim ⟨4, ![R, B, 1, h]⟩ ![0, 1, 3] hb A (ix4 r b d l) = A (ix3 r b l) := by
  unfold broadcastInDim
  congr 1
  funext a
  fin_cases a
  all_goals
    refine Fin.ext ?_
    dsimp only
    split
    · next h1 =>
      first
        | (have := r.isLt; change R = 1 at h1; show 0 = r.val; omega)
        | (have := b.isLt; change B = 1 at h1; show 0 = b.val; omega)
        | (have := l.isLt; change h = 1 at h1; show 0 = l.val; omega)
    · rfl

/-- A stage of the reference at distance `h` is the butterfly at distance `h`. -/
theorem stage {R B h : ℕ} (A : FVec Ideal ⟨4, ![R, B, 2, h]⟩ .f32) (x : ℕ → ℝ) (hA : Laid A x)
    (hs0 : (⟨4, ![R, B, 2, h]⟩ : Shape).Slices ![0, 0, 0, 0] ⟨4, ![R, B, 1, h]⟩)
    (hs1 : (⟨4, ![R, B, 2, h]⟩ : Shape).Slices ![0, 0, 1, 0] ⟨4, ![R, B, 1, h]⟩)
    (hc : (⟨4, ![R, B, 1, h]⟩ : Shape).ShapeCasts ⟨3, ![R, B, h]⟩)
    (hb : (⟨3, ![R, B, h]⟩ : Shape).BroadcastsInDim ⟨4, ![R, B, 1, h]⟩ ![0, 1, 3])
    (hk : Shape.Concatenates [(⟨4, ![R, B, 1, h]⟩ : Shape), ⟨4, ![R, B, 1, h]⟩] ⟨4, ![R, B, 2, h]⟩ 2) :
    Laid (concatenate ⟨4, ![R, B, 2, h]⟩ 2
      [⟨⟨4, ![R, B, 1, h]⟩, broadcastInDim ⟨4, ![R, B, 1, h]⟩ ![0, 1, 3] hb
        (addf (shapeCast ⟨3, ![R, B, h]⟩ (extractStridedSlice ⟨4, ![R, B, 1, h]⟩ ![0, 0, 0, 0] A hs0) hc)
          (shapeCast ⟨3, ![R, B, h]⟩ (extractStridedSlice ⟨4, ![R, B, 1, h]⟩ ![0, 0, 1, 0] A hs1) hc) :
            FVec Ideal ⟨3, ![R, B, h]⟩ .f32)⟩,
       ⟨⟨4, ![R, B, 1, h]⟩, broadcastInDim ⟨4, ![R, B, 1, h]⟩ ![0, 1, 3] hb
        (subf (shapeCast ⟨3, ![R, B, h]⟩ (extractStridedSlice ⟨4, ![R, B, 1, h]⟩ ![0, 0, 0, 0] A hs0) hc)
          (shapeCast ⟨3, ![R, B, h]⟩ (extractStridedSlice ⟨4, ![R, B, 1, h]⟩ ![0, 0, 1, 0] A hs1) hc) :
            FVec Ideal ⟨3, ![R, B, h]⟩ .f32)⟩] hk)
      (butterfly h x) := fun j => by
  obtain ⟨r, b, d, l, rfl⟩ : ∃ (r : Fin R) (b : Fin B) (d : Fin 2) (l : Fin h), j = ix4 r b d l :=
    ⟨_, _, _, _, eq_ix4 j⟩
  have hh : 0 < h := Nat.lt_of_le_of_lt (Nat.zero_le _) l.isLt
  have e0 : extractStridedSlice ⟨4, ![R, B, 1, h]⟩ ![0, 0, 0, 0] A hs0 (ix4 r b 0 l)
      = ((x ((((r.val * B + b.val) * 2 + 0) * h + l.val)) : ℝ) : EReal) := by
    have : extractStridedSlice ⟨4, ![R, B, 1, h]⟩ ![0, 0, 0, 0] A hs0 (ix4 r b 0 l) = A (ix4 r b 0 l) := by
      unfold extractStridedSlice
      congr 1
      funext a
      fin_cases a <;> exact Fin.ext (Nat.zero_add _)
    rw [this, hA, position]; rfl
  have e1 : extractStridedSlice ⟨4, ![R, B, 1, h]⟩ ![0, 0, 1, 0] A hs1 (ix4 r b 0 l)
      = ((x ((((r.val * B + b.val) * 2 + 1) * h + l.val)) : ℝ) : EReal) := by
    have : extractStridedSlice ⟨4, ![R, B, 1, h]⟩ ![0, 0, 1, 0] A hs1 (ix4 r b 0 l) = A (ix4 r b 1 l) := by
      unfold extractStridedSlice
      congr 1
      funext a
      fin_cases a
      · exact Fin.ext (Nat.zero_add _)
      · exact Fin.ext (Nat.zero_add _)
      · exact Fin.ext rfl
      · exact Fin.ext (Nat.zero_add _)
    rw [this, hA, position]; rfl
  have hq : ∀ d : ℕ, (((r.val * B + b.val) * 2 + d) * h + l.val) / h = (r.val * B + b.val) * 2 + d := fun d => by
    rw [Nat.mul_comm _ h, Nat.mul_add_div hh, Nat.div_eq_of_lt l.isLt, Nat.add_zero]
  rw [position]
  unfold butterfly
  rw [hq]
  fin_cases d
  · rw [concatenate_pair_apply_left _ _ _ hk _ rfl (ix4 r b 0 l) (by intro a; fin_cases a <;> rfl), add_axis]
    show (shapeCast ⟨3, ![R, B, h]⟩ _ hc (ix3 r b l) + shapeCast ⟨3, ![R, B, h]⟩ _ hc (ix3 r b l) : EReal) = _
    rw [drop_axis, drop_axis, e0, e1, ← EReal.coe_add]
    show ((_ : ℝ) : EReal) = ((if ((r.val * B + b.val) * 2 + 0) % 2 = 0 then _ else _ : ℝ) : EReal)
    rw [if_pos (by omega)]
    congr 3
    show _ = ((r.val * B + b.val) * 2 + 0) * h + l.val + h
    ring
  · rw [concatenate_pair_apply_right _ _ _ hk _ rfl rfl (ix4 r b 0 l) (by
      intro a ha; fin_cases a <;> first | rfl | exact absurd rfl ha) rfl, add_axis]
    show (shapeCast ⟨3, ![R, B, h]⟩ _ hc (ix3 r b l) - shapeCast ⟨3, ![R, B, h]⟩ _ hc (ix3 r b l) : EReal) = _
    rw [drop_axis, drop_axis, e0, e1, ← EReal.coe_sub]
    show ((_ : ℝ) : EReal) = ((if ((r.val * B + b.val) * 2 + 1) % 2 = 0 then _ else _ : ℝ) : EReal)
    rw [if_neg (by omega)]
    congr 3
    show _ = ((r.val * B + b.val) * 2 + 1) * h + l.val - h
    have : ((r.val * B + b.val) * 2 + 1) * h = ((r.val * B + b.val) * 2 + 0) * h + h := by ring
    omega

end Cert.Hadamard

end
-- ==== Proof.Tables.lean ====
/-
  The constant tables of the two programs: the sign matrix, the frequencies and the alternating signs.
-/
module

public import proofs.«01_k».proof.Defs
public import proofs.«01_k».proof.Proof.Rotate

@[expose] public section

set_option maxRecDepth 16384

noncomputable section

namespace Cert.Hadamard

open Idealize.ShloMosaic

/-- The kernel's sign matrix: row `j` is the row `deal j` of the sign matrix, written in bf16 as `1` and `-1`. -/
theorem table_sign : ∀ j k : Fin 128, Cert.KernelIdeal.lit2 ⟨128 * j.val + k.val, by omega⟩
    = if odd 7 (deal j.val) k.val then 0xBF80#16 else 0x3F80#16 := by
  decide +kernel

/-- The kernel's frequencies are the reference's, each twice. -/
theorem table_freq : ∀ j : Fin 64, Cert.KernelIdeal.lit0 j = Cert.ReferenceIdeal.lit0 ⟨j.val / 2, by omega⟩ := by
  decide +kernel

/-- The reference writes its frequencies twice, once for the query and once for the key. -/
theorem table_freq' : ∀ i : Fin 32, Cert.ReferenceIdeal.lit1 i = Cert.ReferenceIdeal.lit0 i := by
  decide +kernel

/-- The kernel's signs are minus and plus the scale `128 ^ (-1/2)`, alternating. -/
theorem table_alternating : ∀ j : Fin 64, Cert.KernelIdeal.lit1 j = if j.val % 2 = 0 then 0xBDB504F3#32 else 0x3DB504F3#32 := by
  decide +kernel

end Cert.Hadamard

end
-- ==== Proof.RefRows.lean ====
/-
  The reference up to its first butterfly: the projections, the layer norm of the key, and the rotation, entry by entry.
-/
module

public import proofs.«01_k».proof.Proof.Spec
public import proofs.«01_k».proof.Proof.Stage
public import proofs.«01_k».proof.Proof.Tables
public import proofs.«01_k».proof.Proof.Gen.ReferenceIdeal.Run

@[expose] public section

set_option maxRecDepth 16384

noncomputable section

namespace Cert.Hadamard

open Idealize.ShloMosaic Idealize.SL.Sem
open Cert.ReferenceIdeal Cert.ReferenceIdeal.Value Cert.ReferenceIdeal.Gen

/-- What the reference's arguments hold: real entries, and the positions. -/
structure RefReads (V0 : Valuation τ sig (Elt Ideal)) (p : ℕ → ℝ) (a0 a1 a3 a4 : ℕ → ℕ → ℝ) (g b : ℕ → ℝ) : Prop where
  arg0 : ∀ (r : Fin 8192) (d : Fin 1536), V0 (Proc.devRef .tc main_arg0) (ix2 r d) = ((a0 r.val d.val : ℝ) : EReal)
  arg1 : ∀ (r : Fin 8192) (d : Fin 2048), V0 (Proc.devRef .tc main_arg1) (ix2 r d) = ((a1 r.val d.val : ℝ) : EReal)
  arg2 : ∀ r : Fin 8192, FloatOps.sitofp (F := Ideal) .f32 (V0 (Proc.devRef .tc main_arg2) (ix1 r)) = ((p r.val : ℝ) : EReal)
  arg3 : ∀ (d : Fin 1536) (l : Fin 2048), V0 (Proc.devRef .tc main_arg3) (ix2 d l) = ((a3 d.val l.val : ℝ) : EReal)
  arg4 : ∀ (d : Fin 2048) (l : Fin 128), V0 (Proc.devRef .tc main_arg4) (ix2 d l) = ((a4 d.val l.val : ℝ) : EReal)
  arg5 : ∀ l : Fin 128, V0 (Proc.devRef .tc main_arg5) (ix1 l) = ((g l.val : ℝ) : EReal)
  arg6 : ∀ l : Fin 128, V0 (Proc.devRef .tc main_arg6) (ix1 l) = ((b l.val : ℝ) : EReal)

/-- An array of rank two whose entries follow a sequence in row-major order. -/
theorem laid2 {R L : ℕ} {A : (⟨2, ![R, L]⟩ : Shape).Idx → EReal} {x : ℕ → ℝ}
    (h : ∀ (r : Fin R) (l : Fin L), A (ix2 r l) = ((x (r.val * L + l.val) : ℝ) : EReal)) : Laid A x := fun j => by
  obtain ⟨r, l, rfl⟩ : ∃ (r : Fin R) (l : Fin L), j = ix2 r l := ⟨_, _, eq_ix2 j⟩
  rw [h, rowMajor_val2 _ L rfl]
  rfl

/-- An array of rank three whose entries follow a sequence in row-major order. -/
theorem laid3 {R B L : ℕ} {A : (⟨3, ![R, B, L]⟩ : Shape).Idx → EReal} {x : ℕ → ℝ}
    (h : ∀ (r : Fin R) (b : Fin B) (l : Fin L), A (ix3 r b l) = ((x ((r.val * B + b.val) * L + l.val) : ℝ) : EReal)) :
    Laid A x := fun j => by
  obtain ⟨r, b, l, rfl⟩ : ∃ (r : Fin R) (b : Fin B) (l : Fin L), j = ix3 r b l := ⟨_, _, _, eq_ix3 j⟩
  rw [h, rowMajor_val3 _ (B * L) L rfl rfl]
  show ((x _ : ℝ) : EReal) = ((x (r.val * (B * L) + b.val * L + l.val) : ℝ) : EReal)
  congr 2
  ring

variable {V0 : Valuation τ sig (Elt Ideal)} {p : ℕ → ℝ} {a0 a1 a3 a4 : ℕ → ℕ → ℝ} {g b : ℕ → ℝ}

/-- The reference's query projection. -/
theorem ref_query_proj (H : RefReads V0 p a0 a1 a3 a4 g b) (r : Fin 8192) (h : Fin 16) (l : Fin 128) :
    res_main_v1 V0 (ix3 r h l) = ((proj 1536 a0 a3 r.val (128 * h.val + l.val) : ℝ) : EReal) := by
  pointwise [res_main_v1]
  simp only [H.arg0, H.arg3, ← EReal.coe_mul, ← coe_sum, Nat.mul_comm h.val]
  rfl

/-- The reference's key projection. -/
theorem ref_key_proj (H : RefReads V0 p a0 a1 a3 a4 g b) (r : Fin 8192) (l : Fin 128) :
    res_main_v2 V0 (ix2 r l) = ((proj 2048 a1 a4 r.val l.val : ℝ) : EReal) := by
  pointwise [res_main_v2]
  simp only [H.arg1, H.arg4, ← EReal.coe_mul, ← coe_sum]
  rfl

/-- The reference's layer norm of the key. -/
theorem ref_key_normed (H : RefReads V0 p a0 a1 a3 a4 g b) (r : Fin 8192) (l : Fin 128) :
    res_main_v26 V0 (ix2 r l) = ((keyRow a1 a4 g b r.val l.val : ℝ) : EReal) := by
  pointwise [res_main_v26, res_main_v8, res_main_v6]
  simp only [ref_key_proj H, H.arg5, H.arg6, bits_lanes, bits_small, ← coe_sum, div_real _ _ (show (128 : ℝ) ≠ 0 by norm_num),
    ← EReal.coe_sub, ← EReal.coe_mul, ← EReal.coe_add]
  have hp := root_pos fun l => proj 2048 a1 a4 r.val l
  unfold spread mean at hp
  rw [sqrt_real _ hp, div_real _ _ (Real.sqrt_ne_zero'.2 hp), ← EReal.coe_mul, ← EReal.coe_add]
  rfl

/-- The cosines that the reference rotates the query by. -/
theorem ref_query_cos (H : RefReads V0 p a0 a1 a3 a4 g b) (r : Fin 8192) (z : Fin 1) (i : Fin 32) :
    res_main_v43 V0 (ix3 r z i) = ((Real.cos (angle (p r.val) i.val) : ℝ) : EReal) := by
  pointwise [res_main_v43, res_main_v41]
  rw [H.arg2, show S32.rowMajor (ix1 i) = i from Fin.ext (rowMajor_val1 _), read_freq, ← EReal.coe_mul]
  rfl

/-- The sines that the reference rotates the query by. -/
theorem ref_query_sin (H : RefReads V0 p a0 a1 a3 a4 g b) (r : Fin 8192) (z : Fin 1) (i : Fin 32) :
    res_main_v45 V0 (ix3 r z i) = ((Real.sin (angle (p r.val) i.val) : ℝ) : EReal) := by
  pointwise [res_main_v45, res_main_v41]
  rw [H.arg2, show S32.rowMajor (ix1 i) = i from Fin.ext (rowMajor_val1 _), read_freq, ← EReal.coe_mul]
  rfl

/-- The cosines that the reference rotates the key by. -/
theorem ref_key_cos (H : RefReads V0 p a0 a1 a3 a4 g b) (r : Fin 8192) (z : Fin 1) (i : Fin 32) :
    res_main_v66 V0 (ix3 r z i) = ((Real.cos (angle (p r.val) i.val) : ℝ) : EReal) := by
  pointwise [res_main_v66, res_main_v64]
  rw [H.arg2, show S32.rowMajor (ix1 i) = i from Fin.ext (rowMajor_val1 _), table_freq', read_freq, ← EReal.coe_mul]
  rfl

/-- The sines that the reference rotates the key by. -/
theorem ref_key_sin (H : RefReads V0 p a0 a1 a3 a4 g b) (r : Fin 8192) (z : Fin 1) (i : Fin 32) :
    res_main_v68 V0 (ix3 r z i) = ((Real.sin (angle (p r.val) i.val) : ℝ) : EReal) := by
  pointwise [res_main_v68, res_main_v64]
  rw [H.arg2, show S32.rowMajor (ix1 i) = i from Fin.ext (rowMajor_val1 _), table_freq', read_freq, ← EReal.coe_mul]
  rfl

/-- The even lanes of the query, dealt out. -/
theorem ref_query_even (H : RefReads V0 p a0 a1 a3 a4 g b) (r : Fin 8192) (h : Fin 16) (i : Fin 32) :
    res_main_v46 V0 (ix3 r h i) = ((proj 1536 a0 a3 r.val (128 * h.val + 2 * i.val) : ℝ) : EReal) := by
  pointwise [res_main_v46, res_main_v30, res_main_v27]
  rw [ref_query_proj H]

/-- The odd lanes of the query, dealt out. -/
theorem ref_query_odd (H : RefReads V0 p a0 a1 a3 a4 g b) (r : Fin 8192) (h : Fin 16) (i : Fin 32) :
    res_main_v47 V0 (ix3 r h i) = ((proj 1536 a0 a3 r.val (128 * h.val + (2 * i.val + 1)) : ℝ) : EReal) := by
  pointwise [res_main_v47, res_main_v30, res_main_v27]
  rw [ref_query_proj H]
  show ((proj 1536 a0 a3 r.val (128 * h.val + (1 + 2 * i.val)) : ℝ) : EReal) = _
  rw [Nat.add_comm 1]

/-- The even lanes of the key, dealt out. -/
theorem ref_key_even (H : RefReads V0 p a0 a1 a3 a4 g b) (r : Fin 8192) (z : Fin 1) (i : Fin 32) :
    res_main_v69 V0 (ix3 r z i) = ((keyRow a1 a4 g b r.val (2 * i.val) : ℝ) : EReal) := by
  pointwise [res_main_v69, res_main_v35, res_main_v32]
  rw [ref_key_normed H]

/-- The odd lanes of the key, dealt out. -/
theorem ref_key_odd (H : RefReads V0 p a0 a1 a3 a4 g b) (r : Fin 8192) (z : Fin 1) (i : Fin 32) :
    res_main_v70 V0 (ix3 r z i) = ((keyRow a1 a4 g b r.val (2 * i.val + 1) : ℝ) : EReal) := by
  pointwise [res_main_v70, res_main_v35, res_main_v32]
  rw [ref_key_normed H]
  show ((keyRow a1 a4 g b r.val (1 + 2 * i.val) : ℝ) : EReal) = _
  rw [Nat.add_comm 1]

/-- The rows that the query's butterflies start from, laid end to end. -/
def queryStart (p : ℕ → ℝ) (a w : ℕ → ℕ → ℝ) (n : ℕ) : ℝ :=
  turn (fun i => Real.cos (angle (p (n / 128 / 16)) i)) (fun i => Real.sin (angle (p (n / 128 / 16)) i))
    (queryRow a w (n / 128)) (n % 128)

/-- The rows that the key's butterflies start from, laid end to end. -/
def keyStart (p : ℕ → ℝ) (a w : ℕ → ℕ → ℝ) (g b : ℕ → ℝ) (n : ℕ) : ℝ :=
  turn (fun i => Real.cos (angle (p (n / 128)) i)) (fun i => Real.sin (angle (p (n / 128)) i))
    (keyRow a w g b (n / 128)) (n % 128)

/-- The array that the query's butterflies start from. -/
theorem ref_query_start (H : RefReads V0 p a0 a1 a3 a4 g b) :
    Laid (s := S131072x64x2x1) (res_main_v84 V0) (queryStart p a0 a3) := by
  unfold res_main_v84
  refine Laid.cast (Laid.cast (laid3 (R := 8192) (B := 16) (L := 128) fun r h l => ?_) _) _
  have hl := l.isLt
  have hh := h.isLt
  have e1 : ((r.val * 16 + h.val) * 128 + l.val) / 128 = r.val * 16 + h.val := by omega
  have e2 : ((r.val * 16 + h.val) * 128 + l.val) % 128 = l.val := by omega
  have e3 : (r.val * 16 + h.val) / 16 = r.val := by omega
  have e4 : (r.val * 16 + h.val) % 16 = h.val := by omega
  unfold queryStart turn queryRow
  rw [e1, e2, e3, e4]
  pointwise
  simp only [ref_query_even H, ref_query_odd H, ref_query_cos H, ref_query_sin H, ref_query_proj H, ← EReal.coe_mul,
    ← EReal.coe_sub, ← EReal.coe_add]
  by_cases h32 : l.val < 32
  · rw [dif_pos (by omega), dif_pos h32, if_pos h32]
  · by_cases h64 : l.val < 64
    · rw [dif_pos h64, dif_neg h32, if_neg h32, if_pos h64]
    · rw [dif_neg h64, if_neg h32, if_neg h64, show 64 + (l.val - 64) = l.val by omega]

/-- The array that the key's butterflies start from. -/
theorem ref_key_start (H : RefReads V0 p a0 a1 a3 a4 g b) :
    Laid (s := S8192x64x2x1) (res_main_v164 V0) (keyStart p a1 a4 g b) := by
  unfold res_main_v164
  refine Laid.cast (laid2 (R := 8192) (L := 128) fun r l => ?_) _
  have hl := l.isLt
  have e1 : (r.val * 128 + l.val) / 128 = r.val := by omega
  have e2 : (r.val * 128 + l.val) % 128 = l.val := by omega
  unfold keyStart turn
  rw [e1, e2]
  pointwise
  simp only [ref_key_even H, ref_key_odd H, ref_key_cos H, ref_key_sin H, ref_key_normed H, ← EReal.coe_mul,
    ← EReal.coe_sub, ← EReal.coe_add]
  by_cases h32 : l.val < 32
  · rw [dif_pos (by omega), dif_pos h32, if_pos h32]
  · by_cases h64 : l.val < 64
    · rw [dif_pos h64, dif_neg h32, if_neg h32, if_pos h64]
    · rw [dif_neg h64, if_neg h32, if_neg h64, show 64 + (l.val - 64) = l.val by omega]

end Cert.Hadamard

end
-- ==== Proof.RefStages.lean ====
/-
  The reference's seven butterflies and its scale: its two results, entry by entry.
-/
module

public import proofs.«01_k».proof.Proof.RefRows

@[expose] public section

set_option maxRecDepth 16384

noncomputable section

namespace Cert.Hadamard

open Idealize.ShloMosaic Idealize.SL.Sem
open Cert.ReferenceIdeal Cert.ReferenceIdeal.Value Cert.ReferenceIdeal.Gen

variable {V0 : Valuation τ sig (Elt Ideal)} {p : ℕ → ℝ} {a0 a1 a3 a4 : ℕ → ℕ → ℝ} {g b : ℕ → ℝ}

/-- Scaling every entry scales the sequence. -/
theorem Laid.scaled {s : Shape} {A C : FVec Ideal s .f32} {x : ℕ → ℝ} (hA : Laid A x) (hC : ∀ j, C j = ((scale : ℝ) : EReal)) :
    Laid (mulf A C : FVec Ideal s .f32) fun n => x n * scale := fun j => by
  show (A j * C j : EReal) = _
  rw [hA, hC, ← EReal.coe_mul]

/-- An entry of an array of rank two that follows a sequence. -/
theorem Laid.at2 {R L : ℕ} {A : (⟨2, ![R, L]⟩ : Shape).Idx → EReal} {x : ℕ → ℝ} (hA : Laid A x) (r : Fin R) (l : Fin L) :
    A (ix2 r l) = ((x (r.val * L + l.val) : ℝ) : EReal) := by
  rw [hA, rowMajor_val2 _ L rfl]
  rfl

/-- The reference's query: six butterflies with a change of view after each, from the starting array. -/
theorem ref_query_stages {x : ℕ → ℝ} (s0 : Laid (s := S131072x64x2x1) (res_main_v84 V0) x) :
    Laid (s := S131072x1x2x64) (res_main_v150 V0) (stages 6 x) := by
  have s1 : Laid (s := S131072x32x2x2) (res_main_v95 V0) (stages 1 x) :=
    ((stage (h := 1) _ _ s0 _ _ _ _ _).cast _).cast _
  have s2 : Laid (s := S131072x16x2x4) (res_main_v106 V0) (stages 2 x) :=
    ((stage (h := 2) _ _ s1 _ _ _ _ _).cast _).cast _
  have s3 : Laid (s := S131072x8x2x8) (res_main_v117 V0) (stages 3 x) :=
    ((stage (h := 4) _ _ s2 _ _ _ _ _).cast _).cast _
  have s4 : Laid (s := S131072x4x2x16) (res_main_v128 V0) (stages 4 x) :=
    ((stage (h := 8) _ _ s3 _ _ _ _ _).cast _).cast _
  have s5 : Laid (s := S131072x2x2x32) (res_main_v139 V0) (stages 5 x) :=
    ((stage (h := 16) _ _ s4 _ _ _ _ _).cast _).cast _
  have s6 : Laid (s := S131072x1x2x64) (res_main_v150 V0) (stages 6 x) :=
    ((stage (h := 32) _ _ s5 _ _ _ _ _).cast _).cast _
  exact s6

/-- The reference's key: six butterflies with a change of view after each, from the starting array. -/
theorem ref_key_stages {x : ℕ → ℝ} (s0 : Laid (s := S8192x64x2x1) (res_main_v164 V0) x) :
    Laid (s := S8192x1x2x64) (res_main_v230 V0) (stages 6 x) := by
  have s1 : Laid (s := S8192x32x2x2) (res_main_v175 V0) (stages 1 x) :=
    ((stage (h := 1) _ _ s0 _ _ _ _ _).cast _).cast _
  have s2 : Laid (s := S8192x16x2x4) (res_main_v186 V0) (stages 2 x) :=
    ((stage (h := 2) _ _ s1 _ _ _ _ _).cast _).cast _
  have s3 : Laid (s := S8192x8x2x8) (res_main_v197 V0) (stages 3 x) :=
    ((stage (h := 4) _ _ s2 _ _ _ _ _).cast _).cast _
  have s4 : Laid (s := S8192x4x2x16) (res_main_v208 V0) (stages 4 x) :=
    ((stage (h := 8) _ _ s3 _ _ _ _ _).cast _).cast _
  have s5 : Laid (s := S8192x2x2x32) (res_main_v219 V0) (stages 5 x) :=
    ((stage (h := 16) _ _ s4 _ _ _ _ _).cast _).cast _
  have s6 : Laid (s := S8192x1x2x64) (res_main_v230 V0) (stages 6 x) :=
    ((stage (h := 32) _ _ s5 _ _ _ _ _).cast _).cast _
  exact s6

/-- The term that the reference's run leaves in its first result. -/
def refQuery (V0 : Valuation τ sig (Elt Ideal)) : FVec Ideal S131072x128 .f32 :=
  shapeCast _ (shapeCast _ (mulf (shapeCast _ (concatenate S131072x1x2x64 2 [⟨S131072x1x1x64, (broadcastInDim S131072x1x1x64 ![0, 1, 3] bcast_S131072x1x64_S131072x1x1x64_0_1_3 (addf (res_main_v152 V0) (res_main_v154 V0)))⟩, ⟨S131072x1x1x64, (broadcastInDim S131072x1x1x64 ![0, 1, 3] bcast_S131072x1x64_S131072x1x1x64_0_1_3 (subf (res_main_v152 V0) (res_main_v154 V0)))⟩] concatenates_S131072x1x1x64_S131072x1x1x64_S131072x1x2x64_d2) shapeCasts_S131072x1x2x64_S131072x128) (broadcastInDim S131072x128 ![] bcast_S_S131072x128 (constant S_ .f32 0x3DB504F3#32))) shapeCasts_S131072x128_S8192x16x128) shapeCasts_S8192x16x128_S131072x128

/-- The term that the reference's run leaves in its second result. -/
def refKey (V0 : Valuation τ sig (Elt Ideal)) : FVec Ideal S8192x128 .f32 :=
  mulf (shapeCast _ (concatenate S8192x1x2x64 2 [⟨S8192x1x1x64, (broadcastInDim S8192x1x1x64 ![0, 1, 3] bcast_S8192x1x64_S8192x1x1x64_0_1_3 (addf (res_main_v232 V0) (res_main_v234 V0)))⟩, ⟨S8192x1x1x64, (broadcastInDim S8192x1x1x64 ![0, 1, 3] bcast_S8192x1x64_S8192x1x1x64_0_1_3 (subf (res_main_v232 V0) (res_main_v234 V0)))⟩] concatenates_S8192x1x1x64_S8192x1x1x64_S8192x1x2x64_d2) shapeCasts_S8192x1x2x64_S8192x128) (broadcastInDim S8192x128 ![] bcast_S_S8192x128 (constant S_ .f32 0x3DB504F3#32))

/-- The reference's first result is the finished query. -/
theorem ref_query (H : RefReads V0 p a0 a1 a3 a4 g b) (R : Fin 131072) (k : Fin 128) :
    refQuery V0 (ix2 R k) = ((query p a0 a3 R.val k.val : ℝ) : EReal) := by
  have s6 := ref_query_stages (ref_query_start H)
  have s7 : Laid (refQuery V0) fun n => stages 7 (queryStart p a0 a3) n * scale :=
    ((((stage (h := 64) _ _ s6 _ _ _ _ _).cast _).scaled fun _ => bits_scale).cast _).cast _
  rw [s7.at2]
  exact congrArg _ (stages_row (fun r i => Real.cos (angle (p (r / 16)) i)) (fun r i => Real.sin (angle (p (r / 16)) i))
    (queryRow a0 a3) scale R.val k.val k.isLt)

/-- The reference's second result is the finished key. -/
theorem ref_key (H : RefReads V0 p a0 a1 a3 a4 g b) (r : Fin 8192) (k : Fin 128) :
    refKey V0 (ix2 r k) = ((key p a1 a4 g b r.val k.val : ℝ) : EReal) := by
  have s6 := ref_key_stages (ref_key_start H)
  have s7 : Laid (refKey V0) fun n => stages 7 (keyStart p a1 a4 g b) n * scale :=
    ((stage (h := 64) _ _ s6 _ _ _ _ _).cast _).scaled fun _ => bits_scale
  rw [s7.at2]
  exact congrArg _ (stages_row (fun r i => Real.cos (angle (p r) i)) (fun r i => Real.sin (angle (p r) i))
    (keyRow a1 a4 g b) scale r.val k.val k.isLt)

end Cert.Hadamard

end
-- ==== Proof.KernelRows.lean ====
/-
  One block of the kernel, entry by entry: what the body computes from the blocks it is given.
-/
module

public import proofs.«01_k».proof.Proof.Spec
public import proofs.«01_k».proof.Proof.Gen.KernelIdeal.Skeleton

@[expose] public section

set_option maxRecDepth 16384

noncomputable section

namespace Cert.Hadamard

open Idealize.ShloMosaic Idealize.SL.Sem
open Cert.KernelIdeal Cert.KernelIdeal.Gen

variable {p : ℕ → ℝ} {a0 a1 a3 a4 : ℕ → ℕ → ℝ} {g b : ℕ → ℝ} {T : ℕ}

/-- The block of positions of point `T`, and the kernel's tables, as real numbers. -/
structure AngleReads (p : ℕ → ℝ) (T : ℕ) (pos : Vec Ideal S256x1 .i32) (fr sg : Vec Ideal S1x64 .f32) : Prop where
  pos : ∀ r : Fin 256, FloatOps.sitofp (F := Ideal) .f32 (pos (ix2 r 0)) = ((p (256 * T + r.val) : ℝ) : EReal)
  fr : ∀ j : Fin 64, fr (ix2 0 j) = ((freq (j.val / 2) : ℝ) : EReal)
  sg : ∀ j : Fin 64, sg (ix2 0 j) = (((if j.val % 2 = 0 then -scale else scale : ℝ)) : EReal)

variable {pos : Vec Ideal S256x1 .i32} {fr sg : Vec Ideal S1x64 .f32}

/-- The scaled cosines. -/
theorem ker_cos (H : AngleReads p T pos fr sg) (r : Fin 256) (j : Fin 64) :
    k0_pay6 pos fr (ix2 r j) = ((Real.cos (angle (p (256 * T + r.val)) (j.val / 2)) * scale : ℝ) : EReal) := by
  pointwise [k0_pay6, k0_pay5]
  rw [H.pos, H.fr, bits_scale, ← EReal.coe_mul]
  exact (EReal.coe_mul _ _).symm

/-- The scaled and signed sines. -/
theorem ker_sin (H : AngleReads p T pos fr sg) (r : Fin 256) (j : Fin 64) :
    k0_pay7 pos fr sg (ix2 r j) = ((Real.sin (angle (p (256 * T + r.val)) (j.val / 2)) *
      (if j.val % 2 = 0 then -scale else scale) : ℝ) : EReal) := by
  pointwise [k0_pay7, k0_pay5]
  rw [H.pos, H.fr, H.sg, ← EReal.coe_mul]
  exact (EReal.coe_mul _ _).symm

/-- The mask of the even lanes. -/
theorem ker_even (r : Fin 256) (j : Fin 64) : k0_pay8 (ix2 r j) = if j.val % 2 = 0 then 1#1 else 0#1 := by
  pointwise [k0_pay8]
  revert j
  decide +kernel

/-- The coefficient of the lane itself. -/
theorem ker_own (H : AngleReads p T pos fr sg) (r : Fin 256) (j : Fin 128) :
    k0_pay12 (k0_pay6 pos fr) k0_pay11 (ix2 r j)
      = ((own (fun i => Real.cos (angle (p (256 * T + r.val)) i)) scale j.val : ℝ) : EReal) := by
  pointwise [k0_pay12, k0_pay11]
  unfold own
  split_ifs with h
  · exact ker_cos H r ⟨j.val, h⟩
  · exact bits_scale

/-- The coefficient of the lane to the right. -/
theorem ker_right (H : AngleReads p T pos fr sg) (r : Fin 256) (j : Fin 128) :
    k0_pay13 (k0_pay7 pos fr sg) k0_pay8 k0_pay9 k0_pay10 (ix2 r j)
      = ((fromRight (fun i => Real.sin (angle (p (256 * T + r.val)) i)) scale j.val : ℝ) : EReal) := by
  pointwise [k0_pay13, k0_pay9, k0_pay10]
  unfold fromRight
  by_cases h : j.val < 64
  · rw [dif_pos h, ker_even, ker_sin H]
    by_cases e : j.val % 2 = 0
    · rw [if_pos e, if_pos e, if_pos ⟨h, e⟩]
      rfl
    · rw [if_neg e, if_neg e, if_neg fun c => e c.2]
      rfl
  · rw [dif_neg h, if_neg fun c => h c.1]
    rfl

/-- The coefficient of the lane to the left. -/
theorem ker_left (H : AngleReads p T pos fr sg) (r : Fin 256) (j : Fin 128) :
    k0_pay14 (k0_pay7 pos fr sg) k0_pay8 k0_pay9 k0_pay10 (ix2 r j)
      = ((fromLeft (fun i => Real.sin (angle (p (256 * T + r.val)) i)) scale j.val : ℝ) : EReal) := by
  pointwise [k0_pay14, k0_pay9, k0_pay10]
  unfold fromLeft
  by_cases h : j.val < 64
  · rw [dif_pos h, ker_even, ker_sin H]
    by_cases e : j.val % 2 = 0
    · rw [if_pos e, if_pos e, if_neg fun c => by omega]
      rfl
    · rw [if_neg e, if_neg e, if_pos ⟨h, by omega⟩]
      rfl
  · rw [dif_neg h, if_neg fun c => h c.1]
    rfl

/-- The blocks that the key is computed from, as real numbers. -/
structure KeyReads (a1 a4 : ℕ → ℕ → ℝ) (g b : ℕ → ℝ) (T : ℕ) (hid : Vec Ideal S256x2048 .f32) (wk : Vec Ideal S2048x128 .bf16)
    (gam bet : Vec Ideal S1x128 .f32) : Prop where
  hid : ∀ (r : Fin 256) (d : Fin 2048), hid (ix2 r d) = ((a1 (256 * T + r.val) d.val : ℝ) : EReal)
  wk : ∀ (d : Fin 2048) (l : Fin 128), wk (ix2 d l) = ((a4 d.val l.val : ℝ) : EReal)
  gam : ∀ l : Fin 128, gam (ix2 0 l) = ((g l.val : ℝ) : EReal)
  bet : ∀ l : Fin 128, bet (ix2 0 l) = ((b l.val : ℝ) : EReal)

variable {hid : Vec Ideal S256x2048 .f32} {wk : Vec Ideal S2048x128 .bf16} {gam bet : Vec Ideal S1x128 .f32}

/-- The kernel's layer norm of the key. -/
theorem ker_key_normed (H : KeyReads a1 a4 g b T hid wk gam bet) (r : Fin 256) (l : Fin 128) :
    k0_pay15 hid wk gam bet (ix2 r l) = ((keyRow a1 a4 g b (256 * T + r.val) l.val : ℝ) : EReal) := by
  pointwise [k0_pay15]
  simp only [H.hid, H.wk, H.gam, H.bet, bits_lanes, bits_small, ← EReal.coe_mul, ← coe_sum]
  simp only [← EReal.coe_mul, ← coe_sum, div_real _ _ (show (128 : ℝ) ≠ 0 by norm_num), ← EReal.coe_sub, ← EReal.coe_add]
  have hp := root_pos fun l => proj 2048 a1 a4 (256 * T + r.val) l
  unfold spread mean proj at hp
  rw [rsqrt_real _ hp, ← EReal.coe_mul, ← EReal.coe_mul, ← EReal.coe_add]
  rfl

/-- The kernel's sign matrix, as real numbers. -/
def SignReads (hm : Vec Ideal S128x128 .bf16) : Prop :=
  ∀ j k : Fin 128, hm (ix2 j k) = ((sign 7 (deal j.val) k.val : ℝ) : EReal)

variable {hm : Vec Ideal S128x128 .bf16}

/-- The lane to the right of a lane of the key, around the end. -/
def keyRight (a w : ℕ → ℕ → ℝ) (g b : ℕ → ℝ) (r j : ℕ) : ℝ := keyRow a w g b r (if j < 127 then j + 1 else j - 127)

/-- The lane to the left of a lane of the key, around the end. -/
def keyLeft (a w : ℕ → ℕ → ℝ) (g b : ℕ → ℝ) (r j : ℕ) : ℝ := keyRow a w g b r (if j < 1 then 127 else j - 1)

/-- The kernel's key rolled one lane to the right. -/
theorem ker_key_left (H : KeyReads a1 a4 g b T hid wk gam bet) (r : Fin 256) (l : Fin 128) :
    k0_pay16 hid wk gam bet (ix2 r l) = ((keyLeft a1 a4 g b (256 * T + r.val) l.val : ℝ) : EReal) := by
  pointwise [k0_pay16]
  unfold keyLeft
  by_cases h : l.val < 1
  · rw [dif_pos h, if_pos h, ker_key_normed H]
    exact congrArg (fun n => ((keyRow a1 a4 g b (256 * T + r.val) n : ℝ) : EReal)) (show 127 + l.val = 127 by omega)
  · rw [dif_neg h, if_neg h, ker_key_normed H]

/-- The kernel's key rolled one lane to the left, times its coefficients. -/
theorem ker_key_right (A : AngleReads p T pos fr sg) (H : KeyReads a1 a4 g b T hid wk gam bet) (r : Fin 256) (l : Fin 128) :
    k0_pay18 (k0_pay7 pos fr sg) k0_pay8 k0_pay9 k0_pay10 hid wk gam bet (ix2 r l)
      = ((keyRight a1 a4 g b (256 * T + r.val) l.val *
          fromRight (fun i => Real.sin (angle (p (256 * T + r.val)) i)) scale l.val : ℝ) : EReal) := by
  pointwise [k0_pay18]
  rw [ker_right A, EReal.coe_mul]
  congr 1
  unfold keyRight
  by_cases h : l.val < 127
  · rw [dif_pos h, if_pos h, ker_key_normed H]
    exact congrArg (fun n => ((keyRow a1 a4 g b (256 * T + r.val) n : ℝ) : EReal)) (Nat.add_comm 1 l.val)
  · rw [dif_neg h, if_neg h, ker_key_normed H]

/-- The kernel's key block is the finished key. -/
theorem ker_key (A : AngleReads p T pos fr sg) (H : KeyReads a1 a4 g b T hid wk gam bet) (S : SignReads hm)
    (r : Fin 256) (k : Fin 128) :
    k0_pay1 (k0_pay14 (k0_pay7 pos fr sg) k0_pay8 k0_pay9 k0_pay10) hm (k0_pay16 hid wk gam bet)
      (k0_pay17 (k0_pay6 pos fr) k0_pay11 hid wk gam bet)
      (k0_pay18 (k0_pay7 pos fr sg) k0_pay8 k0_pay9 k0_pay10 hid wk gam bet) (ix2 r k)
      = ((key p a1 a4 g b (256 * T + r.val) k.val : ℝ) : EReal) := by
  pointwise [k0_pay1, k0_pay17]
  simp only [ker_key_normed H, ker_key_left H, ker_key_right A H, ker_own A, ker_left A, S _ _, ← EReal.coe_mul,
    ← EReal.coe_add, ← coe_sum]
  refine congrArg _ (row_eq _ _ (keyRow a1 a4 g b (256 * T + r.val)) (keyRight a1 a4 g b (256 * T + r.val))
    (keyLeft a1 a4 g b (256 * T + r.val)) scale k.val (fun j h _ => ?_) fun j h e => ?_)
  · unfold keyRight
    rw [if_pos (by omega)]
  · unfold keyLeft
    rw [if_neg (by omega)]

/-- The blocks that the query is computed from, as real numbers. -/
structure QueryReads (a0 a3 : ℕ → ℕ → ℝ) (T : ℕ) (ql : Vec Ideal S256x1536 .f32) (wq : Vec Ideal S1536x2048 .bf16) : Prop where
  ql : ∀ (r : Fin 256) (d : Fin 1536), ql (ix2 r d) = ((a0 (256 * T + r.val) d.val : ℝ) : EReal)
  wq : ∀ (d : Fin 1536) (l : Fin 2048), wq (ix2 d l) = ((a3 d.val l.val : ℝ) : EReal)

variable {ql : Vec Ideal S256x1536 .f32} {wq : Vec Ideal S1536x2048 .bf16}

/-- The kernel's projection of a block of the query: all heads of a token in one row. -/
def queryFlat (ql : Vec Ideal S256x1536 .f32) (wq : Vec Ideal S1536x2048 .bf16) : FVec Ideal S256x2048 .f32 :=
  matmul dot_S256x1536_S1536x2048_S256x2048_1_0_0_1_n_n none (φ₂ := .bf16) (truncf .bf16 ql bitsLt_bf16_f32) wq (constant S256x2048 .f32 0x00000000#32)

/-- A row of coefficients repeated for every head. -/
def tiled (v : FVec Ideal S256x128 .f32) : FVec Ideal S256x2048 .f32 :=
  concatenate S256x2048 1 [⟨S256x128, v⟩, ⟨S256x128, v⟩, ⟨S256x128, v⟩, ⟨S256x128, v⟩, ⟨S256x128, v⟩, ⟨S256x128, v⟩, ⟨S256x128, v⟩, ⟨S256x128, v⟩, ⟨S256x128, v⟩, ⟨S256x128, v⟩, ⟨S256x128, v⟩, ⟨S256x128, v⟩, ⟨S256x128, v⟩, ⟨S256x128, v⟩, ⟨S256x128, v⟩, ⟨S256x128, v⟩] concatenates_S256x128_S256x128_S256x128_S256x128_S256x128_S256x128_S256x128_S256x128_S256x128_S256x128_S256x128_S256x128_S256x128_S256x128_S256x128_S256x128_S256x2048_d1

/-- Rows rolled one lane to the left. -/
def rolledLeft (x : FVec Ideal S256x2048 .f32) : FVec Ideal S256x2048 .f32 :=
  concatenate S256x2048 1 [⟨S256x2047, extractStridedSlice S256x2047 ![0, 1] x slices_S256x2048_o0_1_S256x2047⟩, ⟨S256x1, extractStridedSlice S256x1 ![0, 0] x slices_S256x2048_o0_0_S256x1⟩] concatenates_S256x2047_S256x1_S256x2048_d1

/-- Rows rolled one lane to the right. -/
def rolledRight (x : FVec Ideal S256x2048 .f32) : FVec Ideal S256x2048 .f32 :=
  concatenate S256x2048 1 [⟨S256x1, extractStridedSlice S256x1 ![0, 2047] x slices_S256x2048_o0_2047_S256x1⟩, ⟨S256x2047, extractStridedSlice S256x2047 ![0, 0] x slices_S256x2048_o0_0_S256x2047⟩] concatenates_S256x1_S256x2047_S256x2048_d1

/-- An entry of the projection. -/
theorem queryFlat_apply (H : QueryReads a0 a3 T ql wq) (r : Fin 256) (l : Fin 2048) :
    queryFlat ql wq (ix2 r l) = ((proj 1536 a0 a3 (256 * T + r.val) l.val : ℝ) : EReal) := by
  pointwise [queryFlat]
  simp only [H.ql, H.wq, ← EReal.coe_mul, ← coe_sum]
  rfl

/-- An entry of a repeated row. -/
theorem tiled_apply (v : FVec Ideal S256x128 .f32) (r : Fin 256) (h : ℕ) (x : Fin 128) (hlt : h * 128 + x.val < 2048) :
    tiled v (ix2 r ⟨h * 128 + x.val, hlt⟩) = v (ix2 r x) := by
  have e : x.val = (h * 128 + x.val) % 128 := by have := x.isLt; omega
  show concatenate S256x2048 1 (List.replicate 16 ⟨S256x128, v⟩) _ _ = _
  refine concatenate_replicate_apply (t := S256x2048) (s₁ := S256x128) 1 16 v _ rfl (ix2 r ⟨h * 128 + x.val, hlt⟩) (ix2 r x) e fun a ha => ?_
  fin_cases a
  · rfl
  · exact absurd rfl ha

/-- An entry of the projection rolled to the left: around the end only in the last lane. -/
theorem rolledLeft_apply (H : QueryReads a0 a3 T ql wq) (r : Fin 256) (l : Fin 2048) :
    rolledLeft (queryFlat ql wq) (ix2 r l)
      = ((proj 1536 a0 a3 (256 * T + r.val) (if l.val < 2047 then 1 + l.val else l.val - 2047) : ℝ) : EReal) := by
  pointwise [rolledLeft]
  by_cases h : l.val < 2047
  · rw [dif_pos h, if_pos h, queryFlat_apply H]
  · rw [dif_neg h, if_neg h, queryFlat_apply H]

/-- An entry of the projection rolled to the right: around the end only in the first lane. -/
theorem rolledRight_apply (H : QueryReads a0 a3 T ql wq) (r : Fin 256) (l : Fin 2048) :
    rolledRight (queryFlat ql wq) (ix2 r l)
      = ((proj 1536 a0 a3 (256 * T + r.val) (if l.val < 1 then 2047 + l.val else l.val - 1) : ℝ) : EReal) := by
  pointwise [rolledRight]
  by_cases h : l.val < 1
  · rw [dif_pos h, if_pos h, queryFlat_apply H]
  · rw [dif_neg h, if_neg h, queryFlat_apply H]

/-- The body's query, in these words. -/
theorem pay2_eq (v39 v41 v43 : FVec Ideal S256x128 .f32) (hm : Vec Ideal S128x128 .bf16) (ql : Vec Ideal S256x1536 .f32)
    (wq : Vec Ideal S1536x2048 .bf16) :
    k0_pay2 v39 v41 v43 hm ql wq = matmul dot_S4096x128_S128x128_S4096x128_1_0_0_1_n_n none (φ₂ := .bf16)
      (shapeCast S4096x128 (truncf .bf16 (addf (addf (mulf (queryFlat ql wq) (tiled v39)) (mulf (rolledLeft (queryFlat ql wq)) (tiled v41)))
        (mulf (rolledRight (queryFlat ql wq)) (tiled v43)) : FVec Ideal S256x2048 .f32) bitsLt_bf16_f32) shapeCasts_S256x2048_S4096x128) hm
      (constant S4096x128 .f32 0x00000000#32) := rfl

/-- The kernel's query block is the finished query. -/
theorem ker_query (A : AngleReads p T pos fr sg) (H : QueryReads a0 a3 T ql wq) (S : SignReads hm)
    (R : Fin 4096) (k : Fin 128) :
    k0_pay2 (k0_pay12 (k0_pay6 pos fr) k0_pay11) (k0_pay13 (k0_pay7 pos fr sg) k0_pay8 k0_pay9 k0_pay10)
      (k0_pay14 (k0_pay7 pos fr sg) k0_pay8 k0_pay9 k0_pay10) hm ql wq (ix2 R k)
      = ((query p a0 a3 (4096 * T + R.val) k.val : ℝ) : EReal) := by
  have hR := R.isLt
  have hk := k.isLt
  rw [pay2_eq]
  pointwise
  simp only [tiled_apply, rolledLeft_apply H, rolledRight_apply H, queryFlat_apply H, ker_own A, ker_right A, ker_left A, S _ _,
    ← EReal.coe_mul, ← EReal.coe_add, ← coe_sum]
  have e1 : (4096 * T + R.val) / 16 = 256 * T + R.val / 16 := by omega
  have e2 : (4096 * T + R.val) % 16 = R.val % 16 := by omega
  unfold query queryRow
  rw [e1, e2, Nat.mul_comm 128]
  refine congrArg _ (row_eq _ _ (fun l => proj 1536 a0 a3 (256 * T + R.val / 16) (R.val % 16 * 128 + l))
    (fun x => proj 1536 a0 a3 (256 * T + R.val / 16)
      (if R.val % 16 * 128 + x < 2047 then 1 + (R.val % 16 * 128 + x) else R.val % 16 * 128 + x - 2047))
    (fun x => proj 1536 a0 a3 (256 * T + R.val / 16)
      (if R.val % 16 * 128 + x < 1 then 2047 + (R.val % 16 * 128 + x) else R.val % 16 * 128 + x - 1))
    scale k.val (fun j h _ => ?_) fun j h e => ?_)
  · rw [if_pos (by omega), Nat.add_comm 1, Nat.add_assoc]
  · rw [if_neg (by omega), Nat.add_sub_assoc (by omega)]

end Cert.Hadamard

end
-- ==== Proof.KernelBlocks.lean ====
/-
  The blocks that a point of the kernel's grid works on: where they lie in the arguments, and the real numbers in them.
-/
module

public import Idealize.ShloMosaic.Lib.Pointwise
public import Idealize.ShloMosaic.Lib.Claim
public import Idealize.ShloMosaic.Lib.Pipeline.ValueKit
public import proofs.«01_k».proof.Proof.KernelRows
public import proofs.«01_k».proof.Proof.Tables
public import proofs.«01_k».proof.Proof.Gen.KernelIdeal.Value

@[expose] public section

noncomputable section

namespace Cert.Hadamard

open Idealize.ShloMosaic Idealize.ShloMosaic.TcCoe Idealize.SL.Sem
open Cert.KernelIdeal Cert.KernelIdeal.Gen

variable (m : (ℓ : Loc nD τ sig) → Buf (Elt Ideal) ℓ) (c : Dev nD)

/-- Point `t` reads row block `t` of the latents, the hidden states and the positions. -/
theorem index_rows : ∀ t : Fin cfg0.N,
    win0_0.index t = ![t.val, 0] ∧ win0_1.index t = ![t.val, 0] ∧ win0_2.index t = ![t.val, 0] := by
  decide +kernel

/-- Every point reads the whole of the tables, the weights and the norm's vectors. -/
theorem index_whole : ∀ t : Fin cfg0.N,
    win0_3.index t = ![0, 0] ∧ win0_4.index t = ![0, 0] ∧ win0_5.index t = ![0, 0] ∧ win0_6.index t = ![0, 0]
      ∧ win0_7.index t = ![0, 0] ∧ win0_8.index t = ![0, 0] ∧ win0_9.index t = ![0, 0] := by
  decide +kernel

/-- A row of a block of 256 rows is a row of the array. -/
theorem row_lt (t : Fin cfg0.N) (r : Fin 256) : 256 * t.val + r.val < 8192 := by
  have h := lt_of_lt_of_eq t.isLt (show cfg0.N = 32 from N_0)
  omega

/-- The block of latents. -/
theorem block_latents (t : Fin cfg0.N) (r : Fin 256) (d : Fin 1536) :
    iblk m c 0 t (ix2 r d) = m ((c : Thread nD τ).loc main_arg0) (ix2 ⟨256 * t.val + r.val, row_lt t r⟩ d) := by
  blk_ext [iblk, V_main_arg0, (index_rows t).1]

/-- The block of hidden states. -/
theorem block_hidden (t : Fin cfg0.N) (r : Fin 256) (d : Fin 2048) :
    iblk m c 1 t (ix2 r d) = m ((c : Thread nD τ).loc main_arg1) (ix2 ⟨256 * t.val + r.val, row_lt t r⟩ d) := by
  blk_ext [iblk, V_main_arg1, (index_rows t).2.1]

/-- The block of positions, in the column that the positions are laid out as. -/
theorem block_places (t : Fin cfg0.N) (r : Fin 256) :
    iblk m c 2 t (ix2 r 0) = V m c main_call0_v0 (ix2 ⟨256 * t.val + r.val, row_lt t r⟩ 0) := by
  blk_ext [iblk, (index_rows t).2.2]

/-- The frequencies. -/
theorem block_freq (t : Fin cfg0.N) (j : Fin 64) : iblk m c 3 t (ix2 0 j) = V m c main_call0_cst (ix2 0 j) := by
  blk_ext [iblk, (index_whole t).1]

/-- The signs of the sine. -/
theorem block_sine (t : Fin cfg0.N) (j : Fin 64) : iblk m c 4 t (ix2 0 j) = V m c main_call0_cst_0 (ix2 0 j) := by
  blk_ext [iblk, (index_whole t).2.1]

/-- The weights of the query. -/
theorem block_query_weights (t : Fin cfg0.N) (d : Fin 1536) (l : Fin 2048) :
    iblk m c 5 t (ix2 d l) = m ((c : Thread nD τ).loc main_arg3) (ix2 d l) := by
  blk_ext [iblk, V_main_arg3, (index_whole t).2.2.1]

/-- The weights of the key. -/
theorem block_key_weights (t : Fin cfg0.N) (d : Fin 2048) (l : Fin 128) :
    iblk m c 6 t (ix2 d l) = m ((c : Thread nD τ).loc main_arg4) (ix2 d l) := by
  blk_ext [iblk, V_main_arg4, (index_whole t).2.2.2.1]

/-- The norm's scale. -/
theorem block_gain (t : Fin cfg0.N) (l : Fin 128) : iblk m c 7 t (ix2 0 l) = V m c main_call0_v1 (ix2 0 l) := by
  blk_ext [iblk, (index_whole t).2.2.2.2.1]

/-- The norm's shift. -/
theorem block_shift (t : Fin cfg0.N) (l : Fin 128) : iblk m c 8 t (ix2 0 l) = V m c main_call0_v2 (ix2 0 l) := by
  blk_ext [iblk, (index_whole t).2.2.2.2.2.1]

/-- The sign matrix. -/
theorem block_signs (t : Fin cfg0.N) (j k : Fin 128) : iblk m c 9 t (ix2 j k) = V m c main_call0_cst_1 (ix2 j k) := by
  blk_ext [iblk, (index_whole t).2.2.2.2.2.2]

/-- The positions in a column are the positions. -/
theorem entry_places (r : Fin 8192) : V m c main_call0_v0 (ix2 r 0) = m ((c : Thread nD τ).loc main_arg2) (ix1 r) := by
  entry_read
  pointwise

/-- The norm's scale in a row. -/
theorem entry_gain (l : Fin 128) : V m c main_call0_v1 (ix2 0 l) = m ((c : Thread nD τ).loc main_arg5) (ix1 l) := by
  entry_read
  pointwise

/-- The norm's shift in a row. -/
theorem entry_shift (l : Fin 128) : V m c main_call0_v2 (ix2 0 l) = m ((c : Thread nD τ).loc main_arg6) (ix1 l) := by
  entry_read
  pointwise

/-- The frequencies are the table's words. -/
theorem entry_freq (j : Fin 64) : V m c main_call0_cst (ix2 0 j) = Ideal.ofBits .f32 (lit0 j) := by
  entry_read
  show Ideal.ofBits .f32 (lit0 (S1x64.rowMajor (ix2 0 j))) = _
  rw [show S1x64.rowMajor (ix2 0 j) = j from Fin.ext ((rowMajor_val2 _ 64 rfl).trans (by simp))]

/-- The signs of the sine are the table's words. -/
theorem entry_sine (j : Fin 64) : V m c main_call0_cst_0 (ix2 0 j) = Ideal.ofBits .f32 (lit1 j) := by
  entry_read
  show Ideal.ofBits .f32 (lit1 (S1x64.rowMajor (ix2 0 j))) = _
  rw [show S1x64.rowMajor (ix2 0 j) = j from Fin.ext ((rowMajor_val2 _ 64 rfl).trans (by simp))]

/-- The sign matrix is the table's words, row by row. -/
theorem entry_signs (j k : Fin 128) :
    V m c main_call0_cst_1 (ix2 j k) = Ideal.ofBits .bf16 (lit2 ⟨128 * j.val + k.val, by omega⟩) := by
  entry_read
  show Ideal.ofBits .bf16 (lit2 (S128x128.rowMajor (ix2 j k))) = _
  rw [show S128x128.rowMajor (ix2 j k) = (⟨128 * j.val + k.val, by omega⟩ : Fin 16384) from
    Fin.ext ((rowMajor_val2 _ 128 rfl).trans (by simp [Nat.mul_comm]))]

/-- The kernel's sign matrix holds the signs of the seven stages, its rows in the order the halves are dealt. -/
theorem signs_read (t : Fin cfg0.N) : SignReads (iblk m c 9 t) := fun j k => by
  rw [block_signs, entry_signs, table_sign]
  unfold sign
  split
  · rw [Ideal.ofBits_neg_one_bf16]; norm_num
  · rw [Ideal.ofBits_one_bf16]; norm_num

/-- The kernel's arguments, as real numbers. -/
structure ArgReads (p : ℕ → ℝ) (a0 a1 a3 a4 : ℕ → ℕ → ℝ) (g b : ℕ → ℝ) : Prop where
  arg0 : ∀ (r : Fin 8192) (d : Fin 1536), m ((c : Thread nD τ).loc main_arg0) (ix2 r d) = ((a0 r.val d.val : ℝ) : EReal)
  arg1 : ∀ (r : Fin 8192) (d : Fin 2048), m ((c : Thread nD τ).loc main_arg1) (ix2 r d) = ((a1 r.val d.val : ℝ) : EReal)
  arg2 : ∀ r : Fin 8192, FloatOps.sitofp (F := Ideal) .f32 (m ((c : Thread nD τ).loc main_arg2) (ix1 r)) = ((p r.val : ℝ) : EReal)
  arg3 : ∀ (d : Fin 1536) (l : Fin 2048), m ((c : Thread nD τ).loc main_arg3) (ix2 d l) = ((a3 d.val l.val : ℝ) : EReal)
  arg4 : ∀ (d : Fin 2048) (l : Fin 128), m ((c : Thread nD τ).loc main_arg4) (ix2 d l) = ((a4 d.val l.val : ℝ) : EReal)
  arg5 : ∀ l : Fin 128, m ((c : Thread nD τ).loc main_arg5) (ix1 l) = ((g l.val : ℝ) : EReal)
  arg6 : ∀ l : Fin 128, m ((c : Thread nD τ).loc main_arg6) (ix1 l) = ((b l.val : ℝ) : EReal)

variable {m c} {p : ℕ → ℝ} {a0 a1 a3 a4 : ℕ → ℕ → ℝ} {g b : ℕ → ℝ}

/-- What a point needs for its angles. -/
theorem angles_read (H : ArgReads m c p a0 a1 a3 a4 g b) (t : Fin cfg0.N) :
    AngleReads p t.val (iblk m c 2 t) (iblk m c 3 t) (iblk m c 4 t) where
  pos r := by rw [block_places, entry_places]; exact H.arg2 _
  fr j := by rw [block_freq, entry_freq, table_freq, read_freq]
  sg j := by
    rw [block_sine, entry_sine, table_alternating]
    split
    · exact bits_neg_scale
    · exact bits_scale

/-- What a point needs for its rows of the query. -/
theorem query_reads (H : ArgReads m c p a0 a1 a3 a4 g b) (t s : Fin cfg0.N) :
    QueryReads a0 a3 t.val (iblk m c 0 t) (k0_pay3 (iblk m c 5 s)) where
  ql r d := by rw [block_latents]; exact H.arg0 _ _
  wq d l := by pointwise [k0_pay3]; rw [block_query_weights]; exact H.arg3 _ _

/-- What a point needs for its rows of the key. -/
theorem key_reads (H : ArgReads m c p a0 a1 a3 a4 g b) (t s : Fin cfg0.N) :
    KeyReads a1 a4 g b t.val (iblk m c 1 t) (k0_pay4 (iblk m c 6 s)) (iblk m c 7 t) (iblk m c 8 t) where
  hid r d := by rw [block_hidden]; exact H.arg1 _ _
  wk d l := by pointwise [k0_pay4]; rw [block_key_weights]; exact H.arg4 _ _
  gam l := by rw [block_gain, entry_gain]; exact H.arg5 _
  bet l := by rw [block_shift, entry_shift]; exact H.arg6 _

end Cert.Hadamard

end
-- ==== Proof.KernelResults.lean ====
/-
  The kernel's two results, entry by entry.
-/
module

public import Idealize.ShloMosaic.Lib.Pipeline.ReadBack
public import proofs.«01_k».proof.Proof.KernelBlocks

@[expose] public section

noncomputable section

namespace Cert.Hadamard

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The first point of the grid. -/
def first : Fin cfg0.N := ⟨0, by rw [show cfg0.N = 32 from N_0]; omega⟩

/-- The point whose number is a multiple of 32 is the first. -/
theorem eq_first (t : Fin cfg0.N) (h : t.val % 32 = 0) : t = first := by
  have ht := lt_of_lt_of_eq t.isLt (show cfg0.N = 32 from N_0)
  exact Fin.ext (show t.val = 0 by omega)

/-- The point after another is not the first. -/
theorem not_first (n : ℕ) (h : n + 1 < cfg0.N) : ¬ (⟨n + 1, h⟩ : Fin cfg0.N).val % 32 = 0 := by
  have ht := lt_of_lt_of_eq h (show cfg0.N = 32 from N_0)
  show ¬ (n + 1) % 32 = 0
  omega

/-- After every point the two scratch buffers hold the weights that the first point stored. -/
theorem scratch : ∀ (n : ℕ) (h : n < cfg0.N),
    (outsAt0 m c n h).2.2.1 = k0_pay3 (iblk m c 5 first) ∧ (outsAt0 m c n h).2.2.2 = k0_pay4 (iblk m c 6 first)
  | 0, h => by
    rw [show outsAt0 m c 0 h = outsAt0 m c (first : Fin cfg0.N).val first.isLt from rfl, outsAt0_A m c first rfl]
    constructor <;> frame_out
  | n + 1, h => by
    rw [show outsAt0 m c (n + 1) h = outsAt0 m c (⟨n + 1, h⟩ : Fin cfg0.N).val h from rfl, outsAt0_B m c ⟨n + 1, h⟩ (not_first n h)]
    dsimp only [sout0_B_0, sout0_B_1]
    exact scratch n _

/-- The query block that a point leaves. -/
theorem query_block (t : Fin cfg0.N) : (outsAt0 m c t.val t.isLt).1
    = k0_pay2 (k0_pay12 (k0_pay6 (iblk m c 2 t) (iblk m c 3 t)) k0_pay11)
        (k0_pay13 (k0_pay7 (iblk m c 2 t) (iblk m c 3 t) (iblk m c 4 t)) k0_pay8 k0_pay9 k0_pay10)
        (k0_pay14 (k0_pay7 (iblk m c 2 t) (iblk m c 3 t) (iblk m c 4 t)) k0_pay8 k0_pay9 k0_pay10)
        (iblk m c 9 t) (iblk m c 0 t) (k0_pay3 (iblk m c 5 first)) := by
  by_cases h : t.val % 32 = 0
  · rw [outsAt0_A m c t h]
    frame_out
    rw [eq_first t h]
  · rw [outsAt0_B m c t h]
    frame_out
    simp only [read_unread_whole]
    rw [(scratch m c _ _).1]

/-- The key block that a point leaves. -/
theorem key_block (t : Fin cfg0.N) : (outsAt0 m c t.val t.isLt).2.1
    = k0_pay1 (k0_pay14 (k0_pay7 (iblk m c 2 t) (iblk m c 3 t) (iblk m c 4 t)) k0_pay8 k0_pay9 k0_pay10) (iblk m c 9 t)
        (k0_pay16 (iblk m c 1 t) (k0_pay4 (iblk m c 6 first)) (iblk m c 7 t) (iblk m c 8 t))
        (k0_pay17 (k0_pay6 (iblk m c 2 t) (iblk m c 3 t)) k0_pay11 (iblk m c 1 t) (k0_pay4 (iblk m c 6 first)) (iblk m c 7 t)
          (iblk m c 8 t))
        (k0_pay18 (k0_pay7 (iblk m c 2 t) (iblk m c 3 t) (iblk m c 4 t)) k0_pay8 k0_pay9 k0_pay10 (iblk m c 1 t)
          (k0_pay4 (iblk m c 6 first)) (iblk m c 7 t) (iblk m c 8 t)) := by
  by_cases h : t.val % 32 = 0
  · rw [outsAt0_A m c t h]
    frame_out
    rw [eq_first t h]
  · rw [outsAt0_B m c t h]
    frame_out
    simp only [read_unread_whole]
    rw [(scratch m c _ _).2]

variable {m c} {p : ℕ → ℝ} {a0 a1 a3 a4 : ℕ → ℕ → ℝ} {g b : ℕ → ℝ}

/-- The kernel's first result is the query. -/
theorem kernel_query (H : ArgReads m c p a0 a1 a3 a4 g b) (R : Fin 131072) (k : Fin 128) :
    Cert.KernelIdeal.Value.G10 m c (ix2 R k) = ((query p a0 a3 R.val k.val : ℝ) : EReal) := by
  have hp : Cert.KernelIdeal.Value.pt10Of (ix2 R k) = R.val / 4096 := by
    show 1 * (R.val / 4096 - 0) + 1 * (k.val / 128 - 0) = _
    omega
  have ht : R.val / 4096 < cfg0.N := by rw [show cfg0.N = 32 from N_0]; omega
  have hl : Cert.KernelIdeal.Value.loc10Of (ix2 R k) = ix2 (⟨R.val % 4096, by omega⟩ : Fin 4096) k := by
    funext a
    fin_cases a
    · rfl
    · exact Fin.ext (Nat.mod_eq_of_lt k.isLt)
  unfold Cert.KernelIdeal.Value.G10
  rw [dif_pos (by rw [hp]; exact ht), ← Cert.KernelIdeal.Value.outsAt0_sweep m c _ (by rw [hp]; exact ht), hl]
  simp only [hp]
  have hq := query_block m c ⟨R.val / 4096, ht⟩
  dsimp only at hq
  rw [hq, ker_query (angles_read H _) (query_reads H _ _) (signs_read m c _)]
  dsimp only
  rw [Nat.div_add_mod]

/-- The kernel's second result is the key. -/
theorem kernel_key (H : ArgReads m c p a0 a1 a3 a4 g b) (r : Fin 8192) (k : Fin 128) :
    Cert.KernelIdeal.Value.G11 m c (ix2 r k) = ((key p a1 a4 g b r.val k.val : ℝ) : EReal) := by
  have hp : Cert.KernelIdeal.Value.pt11Of (ix2 r k) = r.val / 256 := by
    show 1 * (r.val / 256 - 0) + 1 * (k.val / 128 - 0) = _
    omega
  have ht : r.val / 256 < cfg0.N := by rw [show cfg0.N = 32 from N_0]; omega
  have hl : Cert.KernelIdeal.Value.loc11Of (ix2 r k) = ix2 (⟨r.val % 256, by omega⟩ : Fin 256) k := by
    funext a
    fin_cases a
    · rfl
    · exact Fin.ext (Nat.mod_eq_of_lt k.isLt)
  unfold Cert.KernelIdeal.Value.G11
  rw [dif_pos (by rw [hp]; exact ht), ← Cert.KernelIdeal.Value.outsAt0_sweep m c _ (by rw [hp]; exact ht), hl]
  simp only [hp]
  have hq := key_block m c ⟨r.val / 256, ht⟩
  dsimp only at hq
  rw [hq, ker_key (angles_read H _) (key_reads H _ _) (signs_read m c _)]
  dsimp only
  rw [Nat.div_add_mod]

end Cert.Hadamard

end
-- ==== Proof.Agree.lean ====
/-
  The two programs leave the same results on the same real arguments.
-/
module

public import proofs.«01_k».proof.Defs
public import proofs.«01_k».proof.Proof.Gen.Pre_finite
public import proofs.«01_k».proof.Proof.RefStages
public import proofs.«01_k».proof.Proof.KernelResults

@[expose] public section

noncomputable section

namespace Cert.Hadamard

open Idealize.ShloMosaic Idealize.ShloMosaic.TcCoe Idealize.SL.Sem
open Cert.KernelIdeal

attribute [local instance] Cert.Pre_finite.Gen.facts

variable {m : (ℓ : Loc nD τ sig) → Buf (Elt Ideal) ℓ}

/-- Under the precondition the kernel's float arguments hold real numbers. -/
theorem args_real (h : Cert.Pre_KernelIdeal_finite m) (c : Dev nD) :
    ArgReads m c (place (m ((c : Thread nD τ).loc main_arg2))) (entry2 (m ((c : Thread nD τ).loc main_arg0)))
      (entry2 (m ((c : Thread nD τ).loc main_arg1))) (entry2 (m ((c : Thread nD τ).loc main_arg3)))
      (entry2 (m ((c : Thread nD τ).loc main_arg4))) (entry1 (m ((c : Thread nD τ).loc main_arg5)))
      (entry1 (m ((c : Thread nD τ).loc main_arg6))) := by
  obtain ⟨h0, h1, h3, h4, h5, h6⟩ := finite_entries _ _ _ _ _ _ _ (h c)
  exact ⟨read2 h0, read2 h1, read_place _, read2 h3, read2 h4, read1 h5, read1 h6⟩

/-- A reference started on the kernel's arguments reads the same real numbers. -/
theorem ref_args {c : Dev nD} {p : ℕ → ℝ} {a0 a1 a3 a4 : ℕ → ℕ → ℝ} {g b : ℕ → ℝ} (H : ArgReads m c p a0 a1 a3 a4 g b)
    {V0 : Valuation Cert.ReferenceIdeal.τ Cert.ReferenceIdeal.sig (Elt Ideal)}
    (e0 : V0 (Proc.devRef .tc Cert.ReferenceIdeal.main_arg0) = m ((c : Thread nD τ).loc main_arg0))
    (e1 : V0 (Proc.devRef .tc Cert.ReferenceIdeal.main_arg1) = m ((c : Thread nD τ).loc main_arg1))
    (e2 : V0 (Proc.devRef .tc Cert.ReferenceIdeal.main_arg2) = m ((c : Thread nD τ).loc main_arg2))
    (e3 : V0 (Proc.devRef .tc Cert.ReferenceIdeal.main_arg3) = m ((c : Thread nD τ).loc main_arg3))
    (e4 : V0 (Proc.devRef .tc Cert.ReferenceIdeal.main_arg4) = m ((c : Thread nD τ).loc main_arg4))
    (e5 : V0 (Proc.devRef .tc Cert.ReferenceIdeal.main_arg5) = m ((c : Thread nD τ).loc main_arg5))
    (e6 : V0 (Proc.devRef .tc Cert.ReferenceIdeal.main_arg6) = m ((c : Thread nD τ).loc main_arg6)) :
    RefReads V0 p a0 a1 a3 a4 g b where
  arg0 r d := (congrFun e0 _).trans (H.arg0 r d)
  arg1 r d := (congrFun e1 _).trans (H.arg1 r d)
  arg2 r := (congrArg _ (congrFun e2 _)).trans (H.arg2 r)
  arg3 d l := (congrFun e3 _).trans (H.arg3 d l)
  arg4 d l := (congrFun e4 _).trans (H.arg4 d l)
  arg5 l := (congrFun e5 _).trans (H.arg5 l)
  arg6 l := (congrFun e6 _).trans (H.arg6 l)

/-- On the same real arguments the reference's query is the kernel's. -/
theorem query_agree {c : Dev nD} {p : ℕ → ℝ} {a0 a1 a3 a4 : ℕ → ℕ → ℝ} {g b : ℕ → ℝ} (H : ArgReads m c p a0 a1 a3 a4 g b)
    {V0 : Valuation Cert.ReferenceIdeal.τ Cert.ReferenceIdeal.sig (Elt Ideal)} (K : RefReads V0 p a0 a1 a3 a4 g b) :
    refQuery V0 = Cert.KernelIdeal.Value.G10 m c := by
  funext i
  obtain ⟨R, k, rfl⟩ : ∃ (R : Fin 131072) (k : Fin 128), i = ix2 R k := ⟨_, _, eq_ix2 i⟩
  exact (ref_query K R k).trans (kernel_query H R k).symm

/-- On the same real arguments the reference's key is the kernel's. -/
theorem key_agree {c : Dev nD} {p : ℕ → ℝ} {a0 a1 a3 a4 : ℕ → ℕ → ℝ} {g b : ℕ → ℝ} (H : ArgReads m c p a0 a1 a3 a4 g b)
    {V0 : Valuation Cert.ReferenceIdeal.τ Cert.ReferenceIdeal.sig (Elt Ideal)} (K : RefReads V0 p a0 a1 a3 a4 g b) :
    refKey V0 = Cert.KernelIdeal.Value.G11 m c := by
  funext i
  obtain ⟨r, k, rfl⟩ : ∃ (r : Fin 8192) (k : Fin 128), i = ix2 r k := ⟨_, _, eq_ix2 i⟩
  exact (ref_key K r k).trans (kernel_key H r k).symm

end Cert.Hadamard

end
-- ==== Proof.lean ====
/-
  The five claims about the kernel and the reference, put together: the three frames, the kernel against its idealized
  self, and the values.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.KernelIdeal.Value
public import proofs.«01_k».proof.Proof.Agree
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference ends with its arguments unchanged; it declares no semaphore, so every counter is at zero. -/
theorem reference_frame : @Cert.quiescent_ReferenceIdeal Cert.ReferenceIdeal.Gen.facts := fun m ρ _ =>
  (θ_run Cert.ReferenceIdeal.defs _ _).mono (fun r h => ⟨fun c => (h c).2.2, sem_eq_zero_of_no_sems (by decide) r.2⟩)
    (Cert.ReferenceIdeal.Value.run m ρ)

/-- The value claim: from agreeing arguments that meet the precondition, both programs leave the same query and key. -/
theorem algebraic : @Cert.algebraic_KernelIdeal_ReferenceIdeal_pre_finite Cert.KernelIdeal.Gen.facts Cert.ReferenceIdeal.Gen.facts
    Cert.Pre_finite.Gen.facts := by
  intro m g m' g' hpre hagree
  refine ⟨fun c => Cert.KernelIdeal.Value.G10 m c, fun c => Cert.KernelIdeal.Value.G11 m c, ?_, ?_⟩
  · exact Cert.KernelIdeal.Value.run m g
  · refine (θ_run _ _ _).mono (fun r h c => ?_) (Cert.ReferenceIdeal.Value.run m' g')
    obtain ⟨hq, hk, hargs⟩ := h c
    obtain ⟨e0, e1, e2, e3, e4, e5, e6⟩ := hagree c
    have H := Cert.Hadamard.args_real hpre c
    have K := Cert.Hadamard.ref_args (V0 := StableHlo.launchContents m' c) H e0 e1 e2 e3 e4 e5 e6
    exact ⟨hq.trans (Cert.Hadamard.query_agree H K), hk.trans (Cert.Hadamard.key_agree H K), hargs⟩

/-- All five claims. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial, algebraic⟩

end Cert.Proof

end
